-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_Qk (m : (ℓ : Loc Cert.Qk.nD Cert.Qk.τ Cert.Qk.sig) → Buf (Elt Bits) ℓ) : Prop :=
  True

def Pre_QkIdeal (m : (ℓ : Loc Cert.QkIdeal.nD Cert.QkIdeal.τ Cert.QkIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_Val (m : (ℓ : Loc Cert.Val.nD Cert.Val.τ Cert.Val.sig) → Buf (Elt Bits) ℓ) : Prop :=
  True

def Pre_ValIdeal (m : (ℓ : Loc Cert.ValIdeal.nD Cert.ValIdeal.τ Cert.ValIdeal.sig) → Buf (Elt Ideal) ℓ) : Prop :=
  True

def Pre_ValRefIdeal (m : (ℓ : Loc Cert.ValRefIdeal.nD Cert.ValRefIdeal.τ Cert.ValRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Sbqk (m : (ℓ : Loc Cert.Sbqk.nD Cert.Sbqk.τ Cert.Sbqk.sig) → Buf (Elt Bits) ℓ) : Prop :=
  True

def Pre_SbqkIdeal (m : (ℓ : Loc Cert.SbqkIdeal.nD Cert.SbqkIdeal.τ Cert.SbqkIdeal.sig) → Buf (Elt Ideal) ℓ) : Prop :=
  True

def Pre_SbqkRefIdeal (m : (ℓ : Loc Cert.SbqkRefIdeal.nD Cert.SbqkRefIdeal.τ Cert.SbqkRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1)
      ∧ r.2.mem ((c.tc : Thread Cert.Ret.nD Cert.Ret.τ).loc Cert.Ret.main_arg2) = m ((c.tc : Thread Cert.Ret.nD Cert.Ret.τ).loc Cert.Ret.main_arg2)
      ∧ r.2.mem ((c.tc : Thread Cert.Ret.nD Cert.Ret.τ).loc Cert.Ret.main_arg3) = m ((c.tc : Thread Cert.Ret.nD Cert.Ret.τ).loc Cert.Ret.main_arg3))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1)
      ∧ r.2.mem ((c.tc : Thread Cert.RetIdeal.nD Cert.RetIdeal.τ).loc Cert.RetIdeal.main_arg2) = m ((c.tc : Thread Cert.RetIdeal.nD Cert.RetIdeal.τ).loc Cert.RetIdeal.main_arg2)
      ∧ r.2.mem ((c.tc : Thread Cert.RetIdeal.nD Cert.RetIdeal.τ).loc Cert.RetIdeal.main_arg3) = m ((c.tc : Thread Cert.RetIdeal.nD Cert.RetIdeal.τ).loc Cert.RetIdeal.main_arg3))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1)
      ∧ r.2.mem ((c.tc : Thread Cert.RetRefIdeal.nD Cert.RetRefIdeal.τ).loc Cert.RetRefIdeal.main_arg2) = m ((c.tc : Thread Cert.RetRefIdeal.nD Cert.RetRefIdeal.τ).loc Cert.RetRefIdeal.main_arg2)
      ∧ r.2.mem ((c.tc : Thread Cert.RetRefIdeal.nD Cert.RetRefIdeal.τ).loc Cert.RetRefIdeal.main_arg3) = m ((c.tc : Thread Cert.RetRefIdeal.nD Cert.RetRefIdeal.τ).loc Cert.RetRefIdeal.main_arg3))
      ∧ r.2.sem = fun _ => 0)

def quiescent_Qk [hQk : Cert.Qk.Facts] : Prop :=
  ∀ (m : (ℓ : Loc Cert.Qk.nD Cert.Qk.τ Cert.Qk.sig) → Buf (Elt Bits) ℓ) (g : Dev Cert.Qk.nD → PrngReg), Pre_Qk m →
    θ_run (Cert.Qk.defs (F := Bits)) (onTc (τ := Cert.Qk.τ) (Cert.Qk.main (F := Bits))) ⟨m, fun _ => 0, g⟩ (fun r => (∀ c : Dev Cert.Qk.nD,
      r.2.mem ((c.tc : Thread Cert.Qk.nD Cert.Qk.τ).loc Cert.Qk.main_arg0) = m ((c.tc : Thread Cert.Qk.nD Cert.Qk.τ).loc Cert.Qk.main_arg0)
      ∧ r.2.mem ((c.tc : Thread Cert.Qk.nD Cert.Qk.τ).loc Cert.Qk.main_arg1) = m ((c.tc : Thread Cert.Qk.nD Cert.Qk.τ).loc Cert.Qk.main_arg1))
      ∧ r.2.sem = fun _ => 0)

def quiescent_QkIdeal [hQkIdeal : Cert.QkIdeal.Facts] : Prop :=
  ∀ (m : (ℓ : Loc Cert.QkIdeal.nD Cert.QkIdeal.τ Cert.QkIdeal.sig) → Buf (Elt Ideal) ℓ) (g : Dev Cert.QkIdeal.nD → PrngReg), Pre_QkIdeal m →
    θ_run (Cert.QkIdeal.defs (F := Ideal)) (onTc (τ := Cert.QkIdeal.τ) (Cert.QkIdeal.main (F := Ideal))) ⟨m, fun _ => 0, g⟩ (fun r => (∀ c : Dev Cert.QkIdeal.nD,
      r.2.mem ((c.tc : Thread Cert.QkIdeal.nD Cert.QkIdeal.τ).loc Cert.QkIdeal.main_arg0) = m ((c.tc : Thread Cert.QkIdeal.nD Cert.QkIdeal.τ).loc Cert.QkIdeal.main_arg0)
      ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1))
      ∧ r.2.sem = fun _ => 0)

def quiescent_Val [hVal : Cert.Val.Facts] : Prop :=
  ∀ (m : (ℓ : Loc Cert.Val.nD Cert.Val.τ Cert.Val.sig) → Buf (Elt Bits) ℓ) (g : Dev Cert.Val.nD → PrngReg), Pre_Val m →
    θ_run (Cert.Val.defs (F := Bits)) (onTc (τ := Cert.Val.τ) (Cert.Val.main (F := Bits))) ⟨m, fun _ => 0, g⟩ (fun r => (∀ c : Dev Cert.Val.nD,
      r.2.mem ((c.tc : Thread Cert.Val.nD Cert.Val.τ).loc Cert.Val.main_arg0) = m ((c.tc : Thread Cert.Val.nD Cert.Val.τ).loc Cert.Val.main_arg0)
      ∧ r.2.mem ((c.tc : Thread Cert.Val.nD Cert.Val.τ).loc Cert.Val.main_arg1) = m ((c.tc : Thread Cert.Val.nD Cert.Val.τ).loc Cert.Val.main_arg1)
      ∧ r.2.mem ((c.tc : Thread Cert.Val.nD Cert.Val.τ).loc Cert.Val.main_arg2) = m ((c.tc : Thread Cert.Val.nD Cert.Val.τ).loc Cert.Val.main_arg2))
      ∧ r.2.sem = fun _ => 0)

def quiescent_ValIdeal [hValIdeal : Cert.ValIdeal.Facts] : Prop :=
  ∀ (m : (ℓ : Loc Cert.ValIdeal.nD Cert.ValIdeal.τ Cert.ValIdeal.sig) → Buf (Elt Ideal) ℓ) (g : Dev Cert.ValIdeal.nD → PrngReg), Pre_ValIdeal m →
    θ_run (Cert.ValIdeal.defs (F := Ideal)) (onTc (τ := Cert.ValIdeal.τ) (Cert.ValIdeal.main (F := Ideal))) ⟨m, fun _ => 0, g⟩ (fun r => (∀ c : Dev Cert.ValIdeal.nD,
      r.2.mem ((c.tc : Thread Cert.ValIdeal.nD Cert.ValIdeal.τ).loc Cert.ValIdeal.main_arg0) = m ((c.tc : Thread Cert.ValIdeal.nD Cert.ValIdeal.τ).loc Cert.ValIdeal.main_arg0)
      ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
      ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ r.2.sem = fun _ => 0)

def quiescent_ValRefIdeal [hValRefIdeal : Cert.ValRefIdeal.Facts] : Prop :=
  ∀ (m : (ℓ : Loc Cert.ValRefIdeal.nD Cert.ValRefIdeal.τ Cert.ValRefIdeal.sig) → Buf (Elt Ideal) ℓ) (g : Dev Cert.ValRefIdeal.nD → PrngReg), Pre_ValRefIdeal m →
    θ_run (Cert.ValRefIdeal.defs (F := Ideal)) (onTc (τ := Cert.ValRefIdeal.τ) (Cert.ValRefIdeal.main (F := Ideal))) ⟨m, fun _ => 0, g⟩ (fun r => (∀ c : Dev Cert.ValRefIdeal.nD,
      r.2.mem ((c.tc : Thread Cert.ValRefIdeal.nD Cert.ValRefIdeal.τ).loc Cert.ValRefIdeal.main_arg0) = m ((c.tc : Thread Cert.ValRefIdeal.nD Cert.ValRefIdeal.τ).loc Cert.ValRefIdeal.main_arg0)
      ∧ r.2.mem ((c.tc : Thread Cert.ValRefIdeal.nD Cert.ValRefIdeal.τ).loc Cert.ValRefIdeal.main_arg1) = m ((c.tc : Thread Cert.ValRefIdeal.nD Cert.ValRefIdeal.τ).loc Cert.ValRefIdeal.main_arg1)
      ∧ r.2.mem ((c.tc : Thread Cert.ValRefIdeal.nD Cert.ValRefIdeal.τ).loc Cert.ValRefIdeal.main_arg2) = m ((c.tc : Thread Cert.ValRefIdeal.nD Cert.ValRefIdeal.τ).loc Cert.ValRefIdeal.main_arg2))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Sbqk [hSbqk : Cert.Sbqk.Facts] : Prop :=
  ∀ (m : (ℓ : Loc Cert.Sbqk.nD Cert.Sbqk.τ Cert.Sbqk.sig) → Buf (Elt Bits) ℓ) (g : Dev Cert.Sbqk.nD → PrngReg), Pre_Sbqk m →
    θ_run (Cert.Sbqk.defs (F := Bits)) (onTc (τ := Cert.Sbqk.τ) (Cert.Sbqk.main (F := Bits))) ⟨m, fun _ => 0, g⟩ (fun r => (∀ c : Dev Cert.Sbqk.nD,
      r.2.mem ((c.tc : Thread Cert.Sbqk.nD Cert.Sbqk.τ).loc Cert.Sbqk.main_arg0) = m ((c.tc : Thread Cert.Sbqk.nD Cert.Sbqk.τ).loc Cert.Sbqk.main_arg0)
      ∧ r.2.mem ((c.tc : Thread Cert.Sbqk.nD Cert.Sbqk.τ).loc Cert.Sbqk.main_arg1) = m ((c.tc : Thread Cert.Sbqk.nD Cert.Sbqk.τ).loc Cert.Sbqk.main_arg1)
      ∧ r.2.mem ((c.tc : Thread Cert.Sbqk.nD Cert.Sbqk.τ).loc Cert.Sbqk.main_arg2) = m ((c.tc : Thread Cert.Sbqk.nD Cert.Sbqk.τ).loc Cert.Sbqk.main_arg2)
      ∧ r.2.mem ((c.tc : Thread Cert.Sbqk.nD Cert.Sbqk.τ).loc Cert.Sbqk.main_arg3) = m ((c.tc : Thread Cert.Sbqk.nD Cert.Sbqk.τ).loc Cert.Sbqk.main_arg3))
      ∧ r.2.sem = fun _ => 0)

def quiescent_SbqkIdeal [hSbqkIdeal : Cert.SbqkIdeal.Facts] : Prop :=
  ∀ (m : (ℓ : Loc Cert.SbqkIdeal.nD Cert.SbqkIdeal.τ Cert.SbqkIdeal.sig) → Buf (Elt Ideal) ℓ) (g : Dev Cert.SbqkIdeal.nD → PrngReg), Pre_SbqkIdeal m →
    θ_run (Cert.SbqkIdeal.defs (F := Ideal)) (onTc (τ := Cert.SbqkIdeal.τ) (Cert.SbqkIdeal.main (F := Ideal))) ⟨m, fun _ => 0, g⟩ (fun r => (∀ c : Dev Cert.SbqkIdeal.nD,
      r.2.mem ((c.tc : Thread Cert.SbqkIdeal.nD Cert.SbqkIdeal.τ).loc Cert.SbqkIdeal.main_arg0) = m ((c.tc : Thread Cert.SbqkIdeal.nD Cert.SbqkIdeal.τ).loc Cert.SbqkIdeal.main_arg0)
      ∧ r.2.mem ((c.tc : Thread Cert.SbqkIdeal.nD Cert.SbqkIdeal.τ).loc Cert.SbqkIdeal.main_arg1) = m ((c.tc : Thread Cert.SbqkIdeal.nD Cert.SbqkIdeal.τ).loc Cert.SbqkIdeal.main_arg1)
      ∧ r.2.mem ((c.tc : Thread Cert.SbqkIdeal.nD Cert.SbqkIdeal.τ).loc Cert.SbqkIdeal.main_arg2) = m ((c.tc : Thread Cert.SbqkIdeal.nD Cert.SbqkIdeal.τ).loc Cert.SbqkIdeal.main_arg2)
      ∧ r.2.mem ((c.tc : Thread Cert.SbqkIdeal.nD Cert.SbqkIdeal.τ).loc Cert.SbqkIdeal.main_arg3) = m ((c.tc : Thread Cert.SbqkIdeal.nD Cert.SbqkIdeal.τ).loc Cert.SbqkIdeal.main_arg3))
      ∧ r.2.sem = fun _ => 0)

def quiescent_SbqkRefIdeal [hSbqkRefIdeal : Cert.SbqkRefIdeal.Facts] : Prop :=
  ∀ (m : (ℓ : Loc Cert.SbqkRefIdeal.nD Cert.SbqkRefIdeal.τ Cert.SbqkRefIdeal.sig) → Buf (Elt Ideal) ℓ) (g : Dev Cert.SbqkRefIdeal.nD → PrngReg), Pre_SbqkRefIdeal m →
    θ_run (Cert.SbqkRefIdeal.defs (F := Ideal)) (onTc (τ := Cert.SbqkRefIdeal.τ) (Cert.SbqkRefIdeal.main (F := Ideal))) ⟨m, fun _ => 0, g⟩ (fun r => (∀ c : Dev Cert.SbqkRefIdeal.nD,
      r.2.mem ((c.tc : Thread Cert.SbqkRefIdeal.nD Cert.SbqkRefIdeal.τ).loc Cert.SbqkRefIdeal.main_arg0) = m ((c.tc : Thread Cert.SbqkRefIdeal.nD Cert.SbqkRefIdeal.τ).loc Cert.SbqkRefIdeal.main_arg0)
      ∧ r.2.mem ((c.tc : Thread Cert.SbqkRefIdeal.nD Cert.SbqkRefIdeal.τ).loc Cert.SbqkRefIdeal.main_arg1) = m ((c.tc : Thread Cert.SbqkRefIdeal.nD Cert.SbqkRefIdeal.τ).loc Cert.SbqkRefIdeal.main_arg1)
      ∧ r.2.mem ((c.tc : Thread Cert.SbqkRefIdeal.nD Cert.SbqkRefIdeal.τ).loc Cert.SbqkRefIdeal.main_arg2) = m ((c.tc : Thread Cert.SbqkRefIdeal.nD Cert.SbqkRefIdeal.τ).loc Cert.SbqkRefIdeal.main_arg2)
      ∧ r.2.mem ((c.tc : Thread Cert.SbqkRefIdeal.nD Cert.SbqkRefIdeal.τ).loc Cert.SbqkRefIdeal.main_arg3) = m ((c.tc : Thread Cert.SbqkRefIdeal.nD Cert.SbqkRefIdeal.τ).loc Cert.SbqkRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5)
      ∧ r.2.mem ((c.tc : Thread Cert.Cross.nD Cert.Cross.τ).loc Cert.Cross.main_arg6) = m ((c.tc : Thread Cert.Cross.nD Cert.Cross.τ).loc Cert.Cross.main_arg6)
      ∧ r.2.mem ((c.tc : Thread Cert.Cross.nD Cert.Cross.τ).loc Cert.Cross.main_arg7) = m ((c.tc : Thread Cert.Cross.nD Cert.Cross.τ).loc Cert.Cross.main_arg7))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
      ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
      ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5)
      ∧ r.2.mem ((c.tc : Thread Cert.CrossRefIdeal.nD Cert.CrossRefIdeal.τ).loc Cert.CrossRefIdeal.main_arg6) = m ((c.tc : Thread Cert.CrossRefIdeal.nD Cert.CrossRefIdeal.τ).loc Cert.CrossRefIdeal.main_arg6)
      ∧ r.2.mem ((c.tc : Thread Cert.CrossRefIdeal.nD Cert.CrossRefIdeal.τ).loc Cert.CrossRefIdeal.main_arg7) = m ((c.tc : Thread Cert.CrossRefIdeal.nD Cert.CrossRefIdeal.τ).loc Cert.CrossRefIdeal.main_arg7))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2)
      ∧ r.2.mem ((c.tc : Thread Cert.Memkv.nD Cert.Memkv.τ).loc Cert.Memkv.main_arg3) = m ((c.tc : Thread Cert.Memkv.nD Cert.Memkv.τ).loc Cert.Memkv.main_arg3))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
      ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2)
      ∧ r.2.mem ((c.tc : Thread Cert.MemkvRefIdeal.nD Cert.MemkvRefIdeal.τ).loc Cert.MemkvRefIdeal.main_arg3) = m ((c.tc : Thread Cert.MemkvRefIdeal.nD Cert.MemkvRefIdeal.τ).loc Cert.MemkvRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def preserves_Ret_RetIdeal : Prop :=
  True

def preserves_Qk_QkIdeal : Prop :=
  True

def algebraic_QkIdeal_QkRefIdeal [hQkIdeal : Cert.QkIdeal.Facts] [hQkRefIdeal : Cert.QkRefIdeal.Facts] : Prop :=
  ∀ (m : (ℓ : Loc Cert.QkIdeal.nD Cert.QkIdeal.τ Cert.QkIdeal.sig) → Buf (Elt Ideal) ℓ) (g : Dev Cert.QkIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkIdeal m →
    (∀ c : Dev Cert.QkIdeal.nD,
      m' ((c.tc : Thread Cert.QkRefIdeal.nD Cert.QkRefIdeal.τ).loc Cert.QkRefIdeal.main_arg0) = m ((c.tc : Thread Cert.QkIdeal.nD Cert.QkIdeal.τ).loc Cert.QkIdeal.main_arg0)
      ∧ m' ((c.tc : Thread Cert.QkRefIdeal.nD Cert.QkRefIdeal.τ).loc Cert.QkRefIdeal.main_arg1) = m ((c.tc : Thread Cert.QkIdeal.nD Cert.QkIdeal.τ).loc Cert.QkIdeal.main_arg1)) →
    ∃ (v0 : (c : Dev Cert.QkIdeal.nD) → Buf (Elt Ideal) ((c.tc : Thread Cert.QkIdeal.nD Cert.QkIdeal.τ).loc Cert.QkIdeal.main_v16)),
      θ_run (Cert.QkIdeal.defs (F := Ideal)) (onTc (τ := Cert.QkIdeal.τ) (Cert.QkIdeal.main (F := Ideal))) ⟨m, fun _ => 0, g⟩ (fun r => ∀ c : Dev Cert.QkIdeal.nD,
          r.2.mem ((c.tc : Thread Cert.QkIdeal.nD Cert.QkIdeal.τ).loc Cert.QkIdeal.main_v16) = v0 c
          ∧ r.2.mem ((c.tc : Thread Cert.QkIdeal.nD Cert.QkIdeal.τ).loc Cert.QkIdeal.main_arg0) = m ((c.tc : Thread Cert.QkIdeal.nD Cert.QkIdeal.τ).loc Cert.QkIdeal.main_arg0)
          ∧ r.2.mem ((c.tc : Thread Cert.QkIdeal.nD Cert.QkIdeal.τ).loc Cert.QkIdeal.main_arg1) = m ((c.tc : Thread Cert.QkIdeal.nD Cert.QkIdeal.τ).loc Cert.QkIdeal.main_arg1))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v58) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1))

def preserves_Val_ValIdeal : Prop :=
  True

def algebraic_ValIdeal_ValRefIdeal [hValIdeal : Cert.ValIdeal.Facts] [hValRefIdeal : Cert.ValRefIdeal.Facts] : Prop :=
  ∀ (m : (ℓ : Loc Cert.ValIdeal.nD Cert.ValIdeal.τ Cert.ValIdeal.sig) → Buf (Elt Ideal) ℓ) (g : Dev Cert.ValIdeal.nD → PrngReg)
    (m' : (ℓ : Loc Cert.ValRefIdeal.nD Cert.ValRefIdeal.τ Cert.ValRefIdeal.sig) → Buf (Elt Ideal) ℓ) (g' : Dev Cert.ValRefIdeal.nD → PrngReg), Pre_ValIdeal m →
    (∀ c : Dev Cert.ValIdeal.nD,
      m' ((c.tc : Thread Cert.ValRefIdeal.nD Cert.ValRefIdeal.τ).loc Cert.ValRefIdeal.main_arg0) = m ((c.tc : Thread Cert.ValIdeal.nD Cert.ValIdeal.τ).loc Cert.ValIdeal.main_arg0)
      ∧ m' ((c.tc : Thread Cert.ValRefIdeal.nD Cert.ValRefIdeal.τ).loc Cert.ValRefIdeal.main_arg1) = m ((c.tc : Thread Cert.ValIdeal.nD Cert.ValIdeal.τ).loc Cert.ValIdeal.main_arg1)
      ∧ m' ((c.tc : Thread Cert.ValRefIdeal.nD Cert.ValRefIdeal.τ).loc Cert.ValRefIdeal.main_arg2) = m ((c.tc : Thread Cert.ValIdeal.nD Cert.ValIdeal.τ).loc Cert.ValIdeal.main_arg2)) →
    ∃ (v0 : (c : Dev Cert.ValIdeal.nD) → Buf (Elt Ideal) ((c.tc : Thread Cert.ValIdeal.nD Cert.ValIdeal.τ).loc Cert.ValIdeal.main_v1_0)) (v1 : (c : Dev Cert.ValIdeal.nD) → Buf (Elt Ideal) ((c.tc : Thread Cert.ValIdeal.nD Cert.ValIdeal.τ).loc Cert.ValIdeal.main_v1_1)),
      θ_run (Cert.ValIdeal.defs (F := Ideal)) (onTc (τ := Cert.ValIdeal.τ) (Cert.ValIdeal.main (F := Ideal))) ⟨m, fun _ => 0, g⟩ (fun r => ∀ c : Dev Cert.ValIdeal.nD,
          r.2.mem ((c.tc : Thread Cert.ValIdeal.nD Cert.ValIdeal.τ).loc Cert.ValIdeal.main_v1_0) = v0 c
          ∧ r.2.mem ((c.tc : Thread Cert.ValIdeal.nD Cert.ValIdeal.τ).loc Cert.ValIdeal.main_v1_1) = v1 c
          ∧ r.2.mem ((c.tc : Thread Cert.ValIdeal.nD Cert.ValIdeal.τ).loc Cert.ValIdeal.main_arg0) = m ((c.tc : Thread Cert.ValIdeal.nD Cert.ValIdeal.τ).loc Cert.ValIdeal.main_arg0)
          ∧ r.2.mem ((c.tc : Thread Cert.ValIdeal.nD Cert.ValIdeal.τ).loc Cert.ValIdeal.main_arg1) = m ((c.tc : Thread Cert.ValIdeal.nD Cert.ValIdeal.τ).loc Cert.ValIdeal.main_arg1)
          ∧ r.2.mem ((c.tc : Thread Cert.ValIdeal.nD Cert.ValIdeal.τ).loc Cert.ValIdeal.main_arg2) = m ((c.tc : Thread Cert.ValIdeal.nD Cert.ValIdeal.τ).loc Cert.ValIdeal.main_arg2))
      ∧ θ_run (Cert.ValRefIdeal.defs (F := Ideal)) (onTc (τ := Cert.ValRefIdeal.τ) (Cert.ValRefIdeal.main (F := Ideal))) ⟨m', fun _ => 0, g'⟩ (fun r => ∀ c : Dev Cert.ValRefIdeal.nD,
          r.2.mem ((c.tc : Thread Cert.ValRefIdeal.nD Cert.ValRefIdeal.τ).loc Cert.ValRefIdeal.main_v15) = v0 c
          ∧ r.2.mem ((c.tc : Thread Cert.ValRefIdeal.nD Cert.ValRefIdeal.τ).loc Cert.ValRefIdeal.main_v16) = v1 c
          ∧ r.2.mem ((c.tc : Thread Cert.ValRefIdeal.nD Cert.ValRefIdeal.τ).loc Cert.ValRefIdeal.main_arg0) = m' ((c.tc : Thread Cert.ValRefIdeal.nD Cert.ValRefIdeal.τ).loc Cert.ValRefIdeal.main_arg0)
          ∧ r.2.mem ((c.tc : Thread Cert.ValRefIdeal.nD Cert.ValRefIdeal.τ).loc Cert.ValRefIdeal.main_arg1) = m' ((c.tc : Thread Cert.ValRefIdeal.nD Cert.ValRefIdeal.τ).loc Cert.ValRefIdeal.main_arg1)
          ∧ r.2.mem ((c.tc : Thread Cert.ValRefIdeal.nD Cert.ValRefIdeal.τ).loc Cert.ValRefIdeal.main_arg2) = m' ((c.tc : Thread Cert.ValRefIdeal.nD Cert.ValRefIdeal.τ).loc Cert.ValRefIdeal.main_arg2))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v11) = v0 c
          ∧ r.2.mem ((c.tc : Thread Cert.GateRefIdeal.nD Cert.GateRefIdeal.τ).loc Cert.GateRefIdeal.main_v12) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Sbqk_SbqkIdeal : Prop :=
  True

def algebraic_SbqkIdeal_SbqkRefIdeal [hSbqkIdeal : Cert.SbqkIdeal.Facts] [hSbqkRefIdeal : Cert.SbqkRefIdeal.Facts] : Prop :=
  ∀ (m : (ℓ : Loc Cert.SbqkIdeal.nD Cert.SbqkIdeal.τ Cert.SbqkIdeal.sig) → Buf (Elt Ideal) ℓ) (g : Dev Cert.SbqkIdeal.nD → PrngReg)
    (m' : (ℓ : Loc Cert.SbqkRefIdeal.nD Cert.SbqkRefIdeal.τ Cert.SbqkRefIdeal.sig) → Buf (Elt Ideal) ℓ) (g' : Dev Cert.SbqkRefIdeal.nD → PrngReg), Pre_SbqkIdeal m →
    (∀ c : Dev Cert.SbqkIdeal.nD,
      m' ((c.tc : Thread Cert.SbqkRefIdeal.nD Cert.SbqkRefIdeal.τ).loc Cert.SbqkRefIdeal.main_arg0) = m ((c.tc : Thread Cert.SbqkIdeal.nD Cert.SbqkIdeal.τ).loc Cert.SbqkIdeal.main_arg0)
      ∧ m' ((c.tc : Thread Cert.SbqkRefIdeal.nD Cert.SbqkRefIdeal.τ).loc Cert.SbqkRefIdeal.main_arg1) = m ((c.tc : Thread Cert.SbqkIdeal.nD Cert.SbqkIdeal.τ).loc Cert.SbqkIdeal.main_arg1)
      ∧ m' ((c.tc : Thread Cert.SbqkRefIdeal.nD Cert.SbqkRefIdeal.τ).loc Cert.SbqkRefIdeal.main_arg2) = m ((c.tc : Thread Cert.SbqkIdeal.nD Cert.SbqkIdeal.τ).loc Cert.SbqkIdeal.main_arg2)
      ∧ m' ((c.tc : Thread Cert.SbqkRefIdeal.nD Cert.SbqkRefIdeal.τ).loc Cert.SbqkRefIdeal.main_arg3) = m ((c.tc : Thread Cert.SbqkIdeal.nD Cert.SbqkIdeal.τ).loc Cert.SbqkIdeal.main_arg3)) →
    ∃ (v0 : (c : Dev Cert.SbqkIdeal.nD) → Buf (Elt Ideal) ((c.tc : Thread Cert.SbqkIdeal.nD Cert.SbqkIdeal.τ).loc Cert.SbqkIdeal.main_v5)),
      θ_run (Cert.SbqkIdeal.defs (F := Ideal)) (onTc (τ := Cert.SbqkIdeal.τ) (Cert.SbqkIdeal.main (F := Ideal))) ⟨m, fun _ => 0, g⟩ (fun r => ∀ c : Dev Cert.SbqkIdeal.nD,
          r.2.mem ((c.tc : Thread Cert.SbqkIdeal.nD Cert.SbqkIdeal.τ).loc Cert.SbqkIdeal.main_v5) = v0 c
          ∧ r.2.mem ((c.tc : Thread Cert.SbqkIdeal.nD Cert.SbqkIdeal.τ).loc Cert.SbqkIdeal.main_arg0) = m ((c.tc : Thread Cert.SbqkIdeal.nD Cert.SbqkIdeal.τ).loc Cert.SbqkIdeal.main_arg0)
          ∧ r.2.mem ((c.tc : Thread Cert.SbqkIdeal.nD Cert.SbqkIdeal.τ).loc Cert.SbqkIdeal.main_arg1) = m ((c.tc : Thread Cert.SbqkIdeal.nD Cert.SbqkIdeal.τ).loc Cert.SbqkIdeal.main_arg1)
          ∧ r.2.mem ((c.tc : Thread Cert.SbqkIdeal.nD Cert.SbqkIdeal.τ).loc Cert.SbqkIdeal.main_arg2) = m ((c.tc : Thread Cert.SbqkIdeal.nD Cert.SbqkIdeal.τ).loc Cert.SbqkIdeal.main_arg2)
          ∧ r.2.mem ((c.tc : Thread Cert.SbqkIdeal.nD Cert.SbqkIdeal.τ).loc Cert.SbqkIdeal.main_arg3) = m ((c.tc : Thread Cert.SbqkIdeal.nD Cert.SbqkIdeal.τ).loc Cert.SbqkIdeal.main_arg3))
      ∧ θ_run (Cert.SbqkRefIdeal.defs (F := Ideal)) (onTc (τ := Cert.SbqkRefIdeal.τ) (Cert.SbqkRefIdeal.main (F := Ideal))) ⟨m', fun _ => 0, g'⟩ (fun r => ∀ c : Dev Cert.SbqkRefIdeal.nD,
          r.2.mem ((c.tc : Thread Cert.SbqkRefIdeal.nD Cert.SbqkRefIdeal.τ).loc Cert.SbqkRefIdeal.main_v41) = v0 c
          ∧ r.2.mem ((c.tc : Thread Cert.SbqkRefIdeal.nD Cert.SbqkRefIdeal.τ).loc Cert.SbqkRefIdeal.main_arg0) = m' ((c.tc : Thread Cert.SbqkRefIdeal.nD Cert.SbqkRefIdeal.τ).loc Cert.SbqkRefIdeal.main_arg0)
          ∧ r.2.mem ((c.tc : Thread Cert.SbqkRefIdeal.nD Cert.SbqkRefIdeal.τ).loc Cert.SbqkRefIdeal.main_arg1) = m' ((c.tc : Thread Cert.SbqkRefIdeal.nD Cert.SbqkRefIdeal.τ).loc Cert.SbqkRefIdeal.main_arg1)
          ∧ r.2.mem ((c.tc : Thread Cert.SbqkRefIdeal.nD Cert.SbqkRefIdeal.τ).loc Cert.SbqkRefIdeal.main_arg2) = m' ((c.tc : Thread Cert.SbqkRefIdeal.nD Cert.SbqkRefIdeal.τ).loc Cert.SbqkRefIdeal.main_arg2)
          ∧ r.2.mem ((c.tc : Thread Cert.SbqkRefIdeal.nD Cert.SbqkRefIdeal.τ).loc Cert.SbqkRefIdeal.main_arg3) = m' ((c.tc : Thread Cert.SbqkRefIdeal.nD Cert.SbqkRefIdeal.τ).loc Cert.SbqkRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)
      ∧ m' ((c.tc : Thread Cert.CrossRefIdeal.nD Cert.CrossRefIdeal.τ).loc Cert.CrossRefIdeal.main_arg6) = m ((c.tc : Thread Cert.CrossIdeal.nD Cert.CrossIdeal.τ).loc Cert.CrossIdeal.main_arg6)
      ∧ m' ((c.tc : Thread Cert.CrossRefIdeal.nD Cert.CrossRefIdeal.τ).loc Cert.CrossRefIdeal.main_arg7) = m ((c.tc : Thread Cert.CrossIdeal.nD Cert.CrossIdeal.τ).loc Cert.CrossIdeal.main_arg7)) →
    ∃ (v0 : (c : Dev Cert.CrossIdeal.nD) → Buf (Elt Ideal) ((c.tc : Thread Cert.CrossIdeal.nD Cert.CrossIdeal.τ).loc Cert.CrossIdeal.main_v5_0)) (v1 : (c : Dev Cert.CrossIdeal.nD) → Buf (Elt Ideal) ((c.tc : Thread Cert.CrossIdeal.nD Cert.CrossIdeal.τ).loc Cert.CrossIdeal.main_v5_1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v5_0) = v0 c
          ∧ r.2.mem ((c.tc : Thread Cert.CrossIdeal.nD Cert.CrossIdeal.τ).loc Cert.CrossIdeal.main_v5_1) = v1 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5)
          ∧ r.2.mem ((c.tc : Thread Cert.CrossIdeal.nD Cert.CrossIdeal.τ).loc Cert.CrossIdeal.main_arg6) = m ((c.tc : Thread Cert.CrossIdeal.nD Cert.CrossIdeal.τ).loc Cert.CrossIdeal.main_arg6)
          ∧ r.2.mem ((c.tc : Thread Cert.CrossIdeal.nD Cert.CrossIdeal.τ).loc Cert.CrossIdeal.main_arg7) = m ((c.tc : Thread Cert.CrossIdeal.nD Cert.CrossIdeal.τ).loc Cert.CrossIdeal.main_arg7))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v65) = v0 c
          ∧ r.2.mem ((c.tc : Thread Cert.CrossRefIdeal.nD Cert.CrossRefIdeal.τ).loc Cert.CrossRefIdeal.main_v67) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5)
          ∧ r.2.mem ((c.tc : Thread Cert.CrossRefIdeal.nD Cert.CrossRefIdeal.τ).loc Cert.CrossRefIdeal.main_arg6) = m' ((c.tc : Thread Cert.CrossRefIdeal.nD Cert.CrossRefIdeal.τ).loc Cert.CrossRefIdeal.main_arg6)
          ∧ r.2.mem ((c.tc : Thread Cert.CrossRefIdeal.nD Cert.CrossRefIdeal.τ).loc Cert.CrossRefIdeal.main_arg7) = m' ((c.tc : Thread Cert.CrossRefIdeal.nD Cert.CrossRefIdeal.τ).loc Cert.CrossRefIdeal.main_arg7))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v33) = v0 c
          ∧ r.2.mem ((c.tc : Thread Cert.UpRefIdeal.nD Cert.UpRefIdeal.τ).loc Cert.UpRefIdeal.main_v34) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)
      ∧ m' ((c.tc : Thread Cert.MemkvRefIdeal.nD Cert.MemkvRefIdeal.τ).loc Cert.MemkvRefIdeal.main_arg3) = m ((c.tc : Thread Cert.MemkvIdeal.nD Cert.MemkvIdeal.τ).loc Cert.MemkvIdeal.main_arg3)) →
    ∃ (v0 : (c : Dev Cert.MemkvIdeal.nD) → Buf (Elt Ideal) ((c.tc : Thread Cert.MemkvIdeal.nD Cert.MemkvIdeal.τ).loc Cert.MemkvIdeal.main_v3_0)) (v1 : (c : Dev Cert.MemkvIdeal.nD) → Buf (Elt Ideal) ((c.tc : Thread Cert.MemkvIdeal.nD Cert.MemkvIdeal.τ).loc Cert.MemkvIdeal.main_v3_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v3_0) = v0 c
          ∧ r.2.mem ((c.tc : Thread Cert.MemkvIdeal.nD Cert.MemkvIdeal.τ).loc Cert.MemkvIdeal.main_v3_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2)
          ∧ r.2.mem ((c.tc : Thread Cert.MemkvIdeal.nD Cert.MemkvIdeal.τ).loc Cert.MemkvIdeal.main_arg3) = m ((c.tc : Thread Cert.MemkvIdeal.nD Cert.MemkvIdeal.τ).loc Cert.MemkvIdeal.main_arg3))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v31) = v0 c
          ∧ r.2.mem ((c.tc : Thread Cert.MemkvRefIdeal.nD Cert.MemkvRefIdeal.τ).loc Cert.MemkvRefIdeal.main_v32) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2)
          ∧ r.2.mem ((c.tc : Thread Cert.MemkvRefIdeal.nD Cert.MemkvRefIdeal.τ).loc Cert.MemkvRefIdeal.main_arg3) = m' ((c.tc : Thread Cert.MemkvRefIdeal.nD Cert.MemkvRefIdeal.τ).loc Cert.MemkvRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v2) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def Claim : Prop :=
  ∃ (hRet : Cert.Ret.Facts) (hRetIdeal : Cert.RetIdeal.Facts) (hRetRefIdeal : Cert.RetRefIdeal.Facts) (hQk : Cert.Qk.Facts) (hQkIdeal : Cert.QkIdeal.Facts) (hQkRefIdeal : Cert.QkRefIdeal.Facts) (hVal : Cert.Val.Facts) (hValIdeal : Cert.ValIdeal.Facts) (hValRefIdeal : Cert.ValRefIdeal.Facts) (hGate : Cert.Gate.Facts) (hGateIdeal : Cert.GateIdeal.Facts) (hGateRefIdeal : Cert.GateRefIdeal.Facts) (hSbqk : Cert.Sbqk.Facts) (hSbqkIdeal : Cert.SbqkIdeal.Facts) (hSbqkRefIdeal : Cert.SbqkRefIdeal.Facts) (hOut : Cert.Out.Facts) (hOutIdeal : Cert.OutIdeal.Facts) (hOutRefIdeal : Cert.OutRefIdeal.Facts) (hCross : Cert.Cross.Facts) (hCrossIdeal : Cert.CrossIdeal.Facts) (hCrossRefIdeal : Cert.CrossRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMemkv : Cert.Memkv.Facts) (hMemkvIdeal : Cert.MemkvIdeal.Facts) (hMemkvRefIdeal : Cert.MemkvRefIdeal.Facts) (hNorm : Cert.Norm.Facts) (hNormIdeal : Cert.NormIdeal.Facts) (hNormRefIdeal : Cert.NormRefIdeal.Facts),
    quiescent_Ret (hRet := hRet)
    ∧ quiescent_RetIdeal (hRetIdeal := hRetIdeal)
    ∧ quiescent_RetRefIdeal (hRetRefIdeal := hRetRefIdeal)
    ∧ quiescent_Qk (hQk := hQk)
    ∧ quiescent_QkIdeal (hQkIdeal := hQkIdeal)
    ∧ quiescent_QkRefIdeal (hQkRefIdeal := hQkRefIdeal)
    ∧ quiescent_Val (hVal := hVal)
    ∧ quiescent_ValIdeal (hValIdeal := hValIdeal)
    ∧ quiescent_ValRefIdeal (hValRefIdeal := hValRefIdeal)
    ∧ quiescent_Gate (hGate := hGate)
    ∧ quiescent_GateIdeal (hGateIdeal := hGateIdeal)
    ∧ quiescent_GateRefIdeal (hGateRefIdeal := hGateRefIdeal)
    ∧ quiescent_Sbqk (hSbqk := hSbqk)
    ∧ quiescent_SbqkIdeal (hSbqkIdeal := hSbqkIdeal)
    ∧ quiescent_SbqkRefIdeal (hSbqkRefIdeal := hSbqkRefIdeal)
    ∧ quiescent_Out (hOut := hOut)
    ∧ quiescent_OutIdeal (hOutIdeal := hOutIdeal)
    ∧ quiescent_OutRefIdeal (hOutRefIdeal := hOutRefIdeal)
    ∧ quiescent_Cross (hCross := hCross)
    ∧ quiescent_CrossIdeal (hCrossIdeal := hCrossIdeal)
    ∧ quiescent_CrossRefIdeal (hCrossRefIdeal := hCrossRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Norm (hNorm := hNorm)
    ∧ quiescent_NormIdeal (hNormIdeal := hNormIdeal)
    ∧ quiescent_NormRefIdeal (hNormRefIdeal := hNormRefIdeal)
    ∧ preserves_Ret_RetIdeal
    ∧ preserves_Qk_QkIdeal
    ∧ algebraic_QkIdeal_QkRefIdeal (hQkIdeal := hQkIdeal) (hQkRefIdeal := hQkRefIdeal)
    ∧ preserves_Val_ValIdeal
    ∧ algebraic_ValIdeal_ValRefIdeal (hValIdeal := hValIdeal) (hValRefIdeal := hValRefIdeal)
    ∧ preserves_Gate_GateIdeal
    ∧ algebraic_GateIdeal_GateRefIdeal (hGateIdeal := hGateIdeal) (hGateRefIdeal := hGateRefIdeal)
    ∧ preserves_Sbqk_SbqkIdeal
    ∧ algebraic_SbqkIdeal_SbqkRefIdeal (hSbqkIdeal := hSbqkIdeal) (hSbqkRefIdeal := hSbqkRefIdeal)
    ∧ preserves_Out_OutIdeal
    ∧ algebraic_OutIdeal_OutRefIdeal (hOutIdeal := hOutIdeal) (hOutRefIdeal := hOutRefIdeal)
    ∧ preserves_Cross_CrossIdeal
    ∧ algebraic_CrossIdeal_CrossRefIdeal (hCrossIdeal := hCrossIdeal) (hCrossRefIdeal := hCrossRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Memkv_MemkvIdeal
    ∧ algebraic_MemkvIdeal_MemkvRefIdeal (hMemkvIdeal := hMemkvIdeal) (hMemkvRefIdeal := hMemkvRefIdeal)
    ∧ preserves_Norm_NormIdeal
    ∧ algebraic_NormIdeal_NormRefIdeal (hNormIdeal := hNormIdeal) (hNormRefIdeal := hNormRefIdeal)
-- ==== Ret.lean ====
abbrev S2x32x8192x128 : Shape := ⟨4, ![2, 32, 8192, 128]⟩
abbrev S2x16x8192x128 : Shape := ⟨4, ![2, 16, 8192, 128]⟩
abbrev S128 : Shape := ⟨1, ![128]⟩
abbrev S16 : Shape := ⟨1, ![16]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S16x1 : Shape := ⟨2, ![16, 1]⟩
abbrev S16x128 : Shape := ⟨2, ![16, 128]⟩
abbrev S16x128x1 : Shape := ⟨3, ![16, 128, 1]⟩
abbrev S16x1x128 : Shape := ⟨3, ![16, 1, 128]⟩
abbrev S2x8192x2048 : Shape := ⟨3, ![2, 8192, 2048]⟩
abbrev S1x1x8192x128 : Shape := ⟨4, ![1, 1, 8192, 128]⟩
abbrev S1x1x128 : Shape := ⟨3, ![1, 1, 128]⟩
abbrev S1x8192x128 : Shape := ⟨3, ![1, 8192, 128]⟩
abbrev S1x1x128x128 : Shape := ⟨4, ![1, 1, 128, 128]⟩
abbrev S128x256 : Shape := ⟨2, ![128, 256]⟩
abbrev S256x128 : Shape := ⟨2, ![256, 128]⟩

abbrev nBuf : Space → Nat
  | .hbm => 68
  | .vmem => 20
  | .smem => 0
  | _ => 0

abbrev bufTy : (tb : Table) → Fin (tcTables nBuf tb) → BufTy
  | .hbm, ⟨0, _⟩ => ⟨S2x32x8192x128, .f32⟩
  | .hbm, ⟨1, _⟩ => ⟨S2x32x8192x128, .bf16⟩
  | .hbm, ⟨2, _⟩ => ⟨S2x16x8192x128, .f32⟩
  | .hbm, ⟨3, _⟩ => ⟨S128, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S16x1x1, .f32⟩
  | .hbm, ⟨28, _⟩ => ⟨S16x128x128, .f32⟩
  | .hbm, ⟨29, _⟩ => ⟨S16x128x128, .f32⟩
  | .hbm, ⟨30, _⟩ => ⟨S16x128x128, .f32⟩
  | .hbm, ⟨31, _⟩ => ⟨S16x128x128, .f32⟩
  | .hbm, ⟨32, _⟩ => ⟨S_, .f32⟩
  | .hbm, ⟨33, _⟩ => ⟨S_, .f32⟩
  | .hbm, ⟨34, _⟩ => ⟨S16x128x128, .i1⟩
  | .hbm, ⟨35, _⟩ => ⟨S16x128x128, .f32⟩
  | .hbm, ⟨36, _⟩ => ⟨S16x128x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S16x1, .f32⟩
  | .hbm, ⟨42, _⟩ => ⟨S16x128, .f32⟩
  | .hbm, ⟨43, _⟩ => ⟨S16x128, .f32⟩
  | .hbm, ⟨44, _⟩ => ⟨S16x128, .f32⟩
  | .hbm, ⟨45, _⟩ => ⟨S16x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S16x1, .f32⟩
  | .hbm, ⟨51, _⟩ => ⟨S16x128, .f32⟩
  | .hbm, ⟨52, _⟩ => ⟨S16x128, .f32⟩
  | .hbm, ⟨53, _⟩ => ⟨S16x128, .f32⟩
  | .hbm, ⟨54, _⟩ => ⟨S16x128, .f32⟩
  | .hbm, ⟨55, _⟩ => ⟨S_, .f32⟩
  | .hbm, ⟨56, _⟩ => ⟨S16, .f32⟩
  | .hbm, ⟨57, _⟩ => ⟨S16, .f32⟩
  | .hbm, ⟨58, _⟩ => ⟨S16, .f32⟩
  | .hbm, ⟨59, _⟩ => ⟨S16x128x1, .f32⟩
  | .hbm, ⟨60, _⟩ => ⟨S16x128x128, .f32⟩
  | .hbm, ⟨61, _⟩ => ⟨S16x128x1, .f32⟩
  | .hbm, ⟨62, _⟩ => ⟨S16x128x128, .f32⟩
  | .hbm, ⟨63, _⟩ => ⟨S16x1, .f32⟩
  | .hbm, ⟨64, _⟩ => ⟨S16x1x1, .f32⟩
  | .hbm, ⟨65, _⟩ => ⟨S16x1x128, .f32⟩
  | .hbm, ⟨66, _⟩ => ⟨S1x128, .f32⟩
  | .hbm, ⟨67, _⟩ => ⟨S2x8192x2048, .bf16⟩
  | .local _ .vmem, ⟨0, _⟩ => ⟨S1x1x8192x128, .f32⟩
  | .local _ .vmem, ⟨1, _⟩ => ⟨S1x1x8192x128, .f32⟩
  | .local _ .vmem, ⟨2, _⟩ => ⟨S1x1x8192x128, .f32⟩
  | .local _ .vmem, ⟨3, _⟩ => ⟨S1x1x8192x128, .f32⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1x8192x128, .f32⟩
  | .local _ .vmem, ⟨7, _⟩ => ⟨S1x1x8192x128, .f32⟩
  | .local _ .vmem, ⟨8, _⟩ => ⟨S1x128x128, .f32⟩
  | .local _ .vmem, ⟨9, _⟩ => ⟨S1x128x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x1x128, .f32⟩
  | .local _ .vmem, ⟨15, _⟩ => ⟨S1x1x128, .f32⟩
  | .local _ .vmem, ⟨16, _⟩ => ⟨S1x128, .f32⟩
  | .local _ .vmem, ⟨17, _⟩ => ⟨S1x8192x128, .bf16⟩
  | .local _ .vmem, ⟨18, _⟩ => ⟨S1x8192x128, .bf16⟩
  | .local _ .vmem, ⟨19, _⟩ => ⟨S128x128, .f32⟩
  | _, _ => ⟨S2x32x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, v0.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== RetRefIdeal.lean ====
abbrev S2x32x8192x128 : Shape := ⟨4, ![2, 32, 8192, 128]⟩
abbrev S2x16x8192x128 : Shape := ⟨4, ![2, 16, 8192, 128]⟩
abbrev S128 : Shape := ⟨1, ![128]⟩
abbrev S2x8192x16x128 : Shape := ⟨4, ![2, 8192, 16, 128]⟩
abbrev S2x8192x2048 : Shape := ⟨3, ![2, 8192, 2048]⟩
abbrev S16 : Shape := ⟨1, ![16]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S16x1x1 : Shape := ⟨3, ![16, 1, 1]⟩
abbrev S16x128x128 : Shape := ⟨3, ![16, 128, 128]⟩
abbrev S2x16x64x128x128 : Shape := ⟨5, ![2, 16, 64, 128, 128]⟩
abbrev S16x1x128x128 : Shape := ⟨4, ![16, 1, 128, 128]⟩
abbrev S1x16x1x128x128 : Shape := ⟨5, ![1, 16, 1, 128, 128]⟩
abbrev S16x1 : Shape := ⟨2, ![16, 1]⟩
abbrev S16x128 : Shape := ⟨2, ![16, 128]⟩
abbrev S16x1x128x1 : Shape := ⟨4, ![16, 1, 128, 1]⟩
abbrev S1x16x1x128x1 : Shape := ⟨5, ![1, 16, 1, 128, 1]⟩
abbrev S64x2x16x128x128 : Shape := ⟨5, ![64, 2, 16, 128, 128]⟩
abbrev S1x16x1x1 : Shape := ⟨4, ![1, 16, 1, 1]⟩
abbrev S2x16x128x128 : Shape := ⟨4, ![2, 16, 128, 128]⟩
abbrev S1x2x16x128x128 : Shape := ⟨5, ![1, 2, 16, 128, 128]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩

abbrev nBuf : Space → Nat
  | .hbm => 145
  | .vmem => 0
  | .smem => 0
  | _ => 0

abbrev hbmTy0_0 (i : Nat) : BufTy := match i % 128 with
  | 0 => ⟨S2x32x8192x128, .f32⟩
  | 1 => ⟨S2x32x8192x128, .bf16⟩
  | 2 => ⟨S2x16x8192x128, .f32⟩
  | 3 => ⟨S128, .f32⟩
  | 4 => ⟨S2x16x8192x128, .f32⟩
  | 5 => ⟨S2x16x8192x128, .f32⟩
  | 6 => ⟨S2x16x8192x128, .bf16⟩
  | 7 => ⟨S2x16x8192x128, .f32⟩
  | 8 => ⟨S2x8192x16x128, .f32⟩
  | 9 => ⟨S2x8192x2048, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S16, .f32⟩
  | 19 => ⟨S16, .f32⟩
  | 20 => ⟨S128, .f32⟩
  | 21 => ⟨S128x1, .f32⟩
  | 22 => ⟨S1x128, .f32⟩
  | 23 => ⟨S128x128, .f32⟩
  | 24 => ⟨S128x128, .f32⟩
  | 25 => ⟨S128x128, .f32⟩
  | 26 => ⟨S_, .f32⟩
  | 27 => ⟨S128x128, .f32⟩
  | 28 => ⟨S128x128, .i1⟩
  | 29 => ⟨S_, .f32⟩
  | 30 => ⟨S128x128, .f32⟩
  | 31 => ⟨S128x128, .f32⟩
  | 32 => ⟨S1x128x128, .f32⟩
  | 33 => ⟨S16x1x1, .f32⟩
  | 34 => ⟨S16x128x128, .f32⟩
  | 35 => ⟨S16x128x128, .f32⟩
  | 36 => ⟨S16x128x128, .f32⟩
  | 37 => ⟨S16x128x128, .f32⟩
  | 38 => ⟨S_, .f32⟩
  | 39 => ⟨S_, .f32⟩
  | 40 => ⟨S16x128x128, .i1⟩
  | 41 => ⟨S16x128x128, .f32⟩
  | 42 => ⟨S16x128x128, .f32⟩
  | 43 => ⟨S2x16x64x128x128, .f32⟩
  | 44 => ⟨S2x16x64x128x128, .f32⟩
  | 45 => ⟨S2x16x64x128x128, .f32⟩
  | 46 => ⟨S2x16x64x128x128, .f32⟩
  | 47 => ⟨S16x1x128x128, .f32⟩
  | 48 => ⟨S1x16x1x128x128, .f32⟩
  | 49 => ⟨S2x16x64x128x128, .f32⟩
  | 50 => ⟨S2x16x64x128x128, .f32⟩
  | 51 => ⟨S2x16x64x128x128, .f32⟩
  | 52 => ⟨S_, .f32⟩
  | 53 => ⟨S128, .f32⟩
  | 54 => ⟨S128, .f32⟩
  | 55 => ⟨S1x128, .f32⟩
  | 56 => ⟨S16x1, .f32⟩
  | 57 => ⟨S16x128, .f32⟩
  | 58 => ⟨S16x128, .f32⟩
  | 59 => ⟨S16x128, .f32⟩
  | 60 => ⟨S16x128, .f32⟩
  | 61 => ⟨S16x1x128x1, .f32⟩
  | 62 => ⟨S1x16x1x128x1, .f32⟩
  | 63 => ⟨S2x16x64x128x128, .f32⟩
  | 64 => ⟨S2x16x64x128x128, .f32⟩
  | 65 => ⟨S64x2x16x128x128, .f32⟩
  | 66 => ⟨S_, .f32⟩
  | 67 => ⟨S16, .f32⟩
  | 68 => ⟨S16, .f32⟩
  | 69 => ⟨S16, .f32⟩
  | 70 => ⟨S1x16x1x1, .f32⟩
  | 71 => ⟨S_, .f32⟩
  | 72 => ⟨S2x16x128x128, .f32⟩
  | 73 => ⟨S_, .f32⟩
  | 74 => ⟨S64x2x16x128x128, .f32⟩
  | 75 => ⟨S_, .i32⟩
  | 76 => ⟨S64x2x16x128x128, .f32⟩
  | 77 => ⟨S1x16x1x1, .f32⟩
  | 78 => ⟨S_, .i32⟩
  | 79 => ⟨S2x16x128x128, .f32⟩
  | 80 => ⟨S64x2x16x128x128, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x2x16x128x128, .f32⟩
  | 88 => ⟨S2x16x128x128, .f32⟩
  | 89 => ⟨S2x16x128x128, .f32⟩
  | 90 => ⟨S2x16x128x128, .f32⟩
  | 91 => ⟨S2x16x128x128, .f32⟩
  | 92 => ⟨S1x2x16x128x128, .f32⟩
  | 93 => ⟨S_, .i32⟩
  | 94 => ⟨S_, .i32⟩
  | 95 => ⟨S_, .i32⟩
  | 96 => ⟨S_, .i32⟩
  | 97 => ⟨S64x2x16x128x128, .f32⟩
  | 98 => ⟨S_, .i32⟩
  | 99 => ⟨S_, .i32⟩
  | 100 => ⟨S_, .f32⟩
  | 101 => ⟨S128, .f32⟩
  | 102 => ⟨S128, .f32⟩
  | 103 => ⟨S1x128, .f32⟩
  | 104 => ⟨S16x1, .f32⟩
  | 105 => ⟨S16x128, .f32⟩
  | 106 => ⟨S16x128, .f32⟩
  | 107 => ⟨S16x128, .f32⟩
  | 108 => ⟨S16x128, .f32⟩
  | 109 => ⟨S16x1x128x1, .f32⟩
  | 110 => ⟨S1x16x1x128x1, .f32⟩
  | 111 => ⟨S2x16x64x128x128, .f32⟩
  | 112 => ⟨S2x16x64x128x128, .f32⟩
  | 113 => ⟨S2x16x64x128x128, .f32⟩
  | 114 => ⟨S2x16x64x128x128, .f32⟩
  | 115 => ⟨S2x16x8192x128, .f32⟩
  | 116 => ⟨S2x8192x16x128, .f32⟩
  | 117 => ⟨S2x8192x16x128, .f32⟩
  | 118 => ⟨S_, .f32⟩
  | 119 => ⟨S2x8192x16, .f32⟩
  | 120 => ⟨S2x8192x16x1, .f32⟩
  | 121 => ⟨S_, .f32⟩
  | 122 => ⟨S2x8192x16x1, .f32⟩
  | 123 => ⟨S2x8192x16x1, .f32⟩
  | 124 => ⟨S_, .f32⟩
  | 125 => ⟨S2x8192x16x1, .f32⟩
  | 126 => ⟨S2x8192x16x1, .f32⟩
  | 127 => ⟨S2x8192x16x1, .f32⟩
  | _ => ⟨S2x32x8192x128, .f32⟩

abbrev hbmTy0_1 (i : Nat) : BufTy := match i % 128 with
  | 0 => ⟨S2x8192x16x128, .f32⟩
  | 1 => ⟨S2x8192x16x128, .f32⟩
  | 2 => ⟨S1x1x1x128, .f32⟩
  | 3 => ⟨S2x8192x16x128, .f32⟩
  | 4 => ⟨S2x8192x16x128, .f32⟩
  | 5 => ⟨S2x8192x2048, .f32⟩
  | 6 => ⟨S2x8192x2048, .f32⟩
  | 7 => ⟨S2x8192x2048, .f32⟩
  | 8 => ⟨S_, .f32⟩
  | 9 => ⟨S2x8192x2048, .f32⟩
  | 10 => ⟨S2x8192x2048, .f32⟩
  | 11 => ⟨S_, .f32⟩
  | 12 => ⟨S2x8192x2048, .f32⟩
  | 13 => ⟨S2x8192x2048, .f32⟩
  | 14 => ⟨S2x8192x2048, .f32⟩
  | 15 => ⟨S2x8192x2048, .f32⟩
  | 16 => ⟨S2x8192x2048, .bf16⟩
  | _ => ⟨S2x32x8192x128, .f32⟩

abbrev hbmTy (i : Nat) : BufTy := match i / 128 with
  | 0 => hbmTy0_0 i
  | 1 => hbmTy0_1 i
  | _ => ⟨S2x32x8192x128, .f32⟩

abbrev bufTy : (tb : Table) → Fin (tcTables nBuf tb) → BufTy
  | .hbm, ⟨i, _⟩ => hbmTy i
  | _, _ => ⟨S2x32x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_c : Ref sig .tc := ⟨.hbm, 75, rfl⟩
abbrev main_v59_0 : Ref sig .tc := ⟨.hbm, 76, rfl⟩
abbrev main_v59_1 : Ref sig .tc := ⟨.hbm, 77, rfl⟩
abbrev main_v59_2 : Ref sig .tc := ⟨.hbm, 78, rfl⟩
abbrev main_v59_3 : Ref sig .tc := ⟨.hbm, 79, rfl⟩
abbrev main_v59_4 : Ref sig .tc := ⟨.hbm, 80, rfl⟩
abbrev main_while0c_c_16 : Ref sig .tc := ⟨.hbm, 81, rfl⟩
abbrev main_while0c_v93 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_c_2 : Ref sig .tc := ⟨.hbm, 86, rfl⟩
abbrev main_while0b_call1_v0 : Ref sig .tc := ⟨.hbm, 87, rfl⟩
abbrev main_while0b_v93 : Ref sig .tc := ⟨.hbm, 88, rfl⟩
abbrev main_while0b_v94 : Ref sig .tc := ⟨.hbm, 89, rfl⟩
abbrev main_while0b_v95 : Ref sig .tc := ⟨.hbm, 90, rfl⟩
abbrev main_while0b_v96 : Ref sig .tc := ⟨.hbm, 91, rfl⟩
abbrev main_while0b_call2_v0 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_v97 : Ref sig .tc := ⟨.hbm, 97, rfl⟩
abbrev main_while0b_c_16 : Ref sig .tc := ⟨.hbm, 98, rfl⟩
abbrev main_while0b_v98 : Ref sig .tc := ⟨.hbm, 99, rfl⟩
abbrev main_cst_8 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_9 : Ref sig .tc := ⟨.hbm, 118, rfl⟩
abbrev main_v77 : Ref sig .tc := ⟨.hbm, 119, rfl⟩
abbrev main_v78 : Ref sig .tc := ⟨.hbm, 120, rfl⟩
abbrev main_cst_10 : Ref sig .tc := ⟨.hbm, 121, rfl⟩
abbrev main_v79 : Ref sig .tc := ⟨.hbm, 122, rfl⟩
abbrev main_v80 : Ref sig .tc := ⟨.hbm, 123, rfl⟩
abbrev main_cst_11 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_call3_v0 : Ref sig .tc := ⟨.hbm, 134, rfl⟩
abbrev main_call3_v1 : Ref sig .tc := ⟨.hbm, 135, rfl⟩
abbrev main_call3_cst : Ref sig .tc := ⟨.hbm, 136, rfl⟩
abbrev main_call3_v2 : Ref sig .tc := ⟨.hbm, 137, rfl⟩
abbrev main_call3_v3 : Ref sig .tc := ⟨.hbm, 138, rfl⟩
abbrev main_call3_cst_0 : Ref sig .tc := ⟨.hbm, 139, rfl⟩
abbrev main_call3_v4 : Ref sig .tc := ⟨.hbm, 140, rfl⟩
abbrev main_call3_v5 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩

abbrev nD : Nat := 1
abbrev τ : Topo := Topo.v7x

variable {F : FTy → Type} [FloatOps F]

abbrev main_while0_count : Scf.Loop 32 := ⟨0#32, 64#32, 1#32⟩
-- ==== Qk.lean ====
abbrev S16384x4096 : Shape := ⟨2, ![16384, 4096]⟩
abbrev S4096x14336 : Shape := ⟨2, ![4096, 14336]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S2x32x8192x128 : Shape := ⟨4, ![2, 32, 8192, 128]⟩
abbrev S1024x4096 : Shape := ⟨2, ![1024, 4096]⟩
abbrev S4096x1024 : Shape := ⟨2, ![4096, 1024]⟩
abbrev S1024x128 : Shape := ⟨2, ![1024, 128]⟩
abbrev S1x8x1024x128 : Shape := ⟨4, ![1, 8, 1024, 128]⟩
abbrev S256x4096 : Shape := ⟨2, ![256, 4096]⟩
abbrev S256x1024 : Shape := ⟨2, ![256, 1024]⟩
abbrev S256x128 : Shape := ⟨2, ![256, 128]⟩
abbrev S1x1x256x128 : Shape := ⟨4, ![1, 1, 256, 128]⟩

abbrev nBuf : Space → Nat
  | .hbm => 42
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S8192, .f32⟩
  | .hbm, ⟨30, _⟩ => ⟨S8192x1, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S8192x64, .f32⟩
  | .hbm, ⟨39, _⟩ => ⟨S8192x128, .f32⟩
  | .hbm, ⟨40, _⟩ => ⟨S4096x14336, .bf16⟩
  | .hbm, ⟨41, _⟩ => ⟨S2x32x8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x8x1024x128, .f32⟩
  | .local _ .vmem, ⟨9, _⟩ => ⟨S1x8x1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkRefIdeal.lean ====
abbrev S16384x4096 : Shape := ⟨2, ![16384, 4096]⟩
abbrev S4096x14336 : Shape := ⟨2, ![4096, 14336]⟩
abbrev S2x8192x4096 : Shape := ⟨3, ![2, 8192, 4096]⟩
abbrev S2x8192x14336 : Shape := ⟨3, ![2, 8192, 14336]⟩
abbrev S2x8192x2048 : Shape := ⟨3, ![2, 8192, 2048]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S2x8192x16x128 : Shape := ⟨4, ![2, 8192, 16, 128]⟩
abbrev S1x8192x1x64 : Shape := ⟨4, ![1, 8192, 1, 64]⟩
abbrev S2x8192x16x64 : Shape := ⟨4, ![2, 8192, 16, 64]⟩
abbrev S2x16x8192x128 : Shape := ⟨4, ![2, 16, 8192, 128]⟩
abbrev S2x32x8192x128 : Shape := ⟨4, ![2, 32, 8192, 128]⟩

abbrev nBuf : Space → Nat
  | .hbm => 85
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S16384x4096, .f32⟩
  | .hbm, ⟨3, _⟩ => ⟨S2x8192x4096, .f32⟩
  | .hbm, ⟨4, _⟩ => ⟨S2x8192x14336, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S63, .f32⟩
  | .hbm, ⟨20, _⟩ => ⟨S_, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S_, .f32⟩
  | .hbm, ⟨25, _⟩ => ⟨S63, .f32⟩
  | .hbm, ⟨26, _⟩ => ⟨S63, .f32⟩
  | .hbm, ⟨27, _⟩ => ⟨S63, .f32⟩
  | .hbm, ⟨28, _⟩ => ⟨S63, .f32⟩
  | .hbm, ⟨29, _⟩ => ⟨S1, .f32⟩
  | .hbm, ⟨30, _⟩ => ⟨S63, .f32⟩
  | .hbm, ⟨31, _⟩ => ⟨S63, .f32⟩
  | .hbm, ⟨32, _⟩ => ⟨S63, .f32⟩
  | .hbm, ⟨33, _⟩ => ⟨S1, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S8192, .f32⟩
  | .hbm, ⟨40, _⟩ => ⟨S8192x1, .f32⟩
  | .hbm, ⟨41, _⟩ => ⟨S1x64, .f32⟩
  | .hbm, ⟨42, _⟩ => ⟨S8192x64, .f32⟩
  | .hbm, ⟨43, _⟩ => ⟨S8192x64, .f32⟩
  | .hbm, ⟨44, _⟩ => ⟨S8192x64, .f32⟩
  | .hbm, ⟨45, _⟩ => ⟨S8192x64, .f32⟩
  | .hbm, ⟨46, _⟩ => ⟨S8192x64, .f32⟩
  | .hbm, ⟨47, _⟩ => ⟨S2x8192x16x128, .f32⟩
  | .hbm, ⟨48, _⟩ => ⟨S1x8192x1x64, .f32⟩
  | .hbm, ⟨49, _⟩ => ⟨S1x8192x1x64, .f32⟩
  | .hbm, ⟨50, _⟩ => ⟨S2x8192x16x64, .f32⟩
  | .hbm, ⟨51, _⟩ => ⟨S2x8192x16x64, .f32⟩
  | .hbm, ⟨52, _⟩ => ⟨S2x8192x16x64, .f32⟩
  | .hbm, ⟨53, _⟩ => ⟨S2x8192x16x64, .f32⟩
  | .hbm, ⟨54, _⟩ => ⟨S2x8192x16x64, .f32⟩
  | .hbm, ⟨55, _⟩ => ⟨S2x8192x16x64, .f32⟩
  | .hbm, ⟨56, _⟩ => ⟨S2x8192x16x64, .f32⟩
  | .hbm, ⟨57, _⟩ => ⟨S2x8192x16x64, .f32⟩
  | .hbm, ⟨58, _⟩ => ⟨S2x8192x16x64, .f32⟩
  | .hbm, ⟨59, _⟩ => ⟨S2x8192x16x64, .f32⟩
  | .hbm, ⟨60, _⟩ => ⟨S2x8192x16x64, .f32⟩
  | .hbm, ⟨61, _⟩ => ⟨S2x8192x16x64, .f32⟩
  | .hbm, ⟨62, _⟩ => ⟨S2x8192x16x128, .f32⟩
  | .hbm, ⟨63, _⟩ => ⟨S_, .f32⟩
  | .hbm, ⟨64, _⟩ => ⟨S2x8192x16x128, .f32⟩
  | .hbm, ⟨65, _⟩ => ⟨S2x8192x16x128, .f32⟩
  | .hbm, ⟨66, _⟩ => ⟨S2x8192x16x128, .f32⟩
  | .hbm, ⟨67, _⟩ => ⟨S1x8192x1x64, .f32⟩
  | .hbm, ⟨68, _⟩ => ⟨S1x8192x1x64, .f32⟩
  | .hbm, ⟨69, _⟩ => ⟨S2x8192x16x64, .f32⟩
  | .hbm, ⟨70, _⟩ => ⟨S2x8192x16x64, .f32⟩
  | .hbm, ⟨71, _⟩ => ⟨S2x8192x16x64, .f32⟩
  | .hbm, ⟨72, _⟩ => ⟨S2x8192x16x64, .f32⟩
  | .hbm, ⟨73, _⟩ => ⟨S2x8192x16x64, .f32⟩
  | .hbm, ⟨74, _⟩ => ⟨S2x8192x16x64, .f32⟩
  | .hbm, ⟨75, _⟩ => ⟨S2x8192x16x64, .f32⟩
  | .hbm, ⟨76, _⟩ => ⟨S2x8192x16x64, .f32⟩
  | .hbm, ⟨77, _⟩ => ⟨S2x8192x16x64, .f32⟩
  | .hbm, ⟨78, _⟩ => ⟨S2x8192x16x64, .f32⟩
  | .hbm, ⟨79, _⟩ => ⟨S2x8192x16x64, .f32⟩
  | .hbm, ⟨80, _⟩ => ⟨S2x8192x16x64, .f32⟩
  | .hbm, ⟨81, _⟩ => ⟨S2x8192x16x128, .f32⟩
  | .hbm, ⟨82, _⟩ => ⟨S2x16x8192x128, .f32⟩
  | .hbm, ⟨83, _⟩ => ⟨S2x16x8192x128, .f32⟩
  | .hbm, ⟨84, _⟩ => ⟨S2x32x8192x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Val.lean ====
abbrev S16384x4096 : Shape := ⟨2, ![16384, 4096]⟩
abbrev S4096x14336 : Shape := ⟨2, ![4096, 14336]⟩
abbrev S4096x22016 : Shape := ⟨2, ![4096, 22016]⟩
abbrev S2x32x8192x128 : Shape := ⟨4, ![2, 32, 8192, 128]⟩
abbrev S1024x4096 : Shape := ⟨2, ![1024, 4096]⟩
abbrev S4096x1024 : Shape := ⟨2, ![4096, 1024]⟩
abbrev S64x22016 : Shape := ⟨2, ![64, 22016]⟩
abbrev S1x8x1024x128 : Shape := ⟨4, ![1, 8, 1024, 128]⟩
abbrev S256x4096 : Shape := ⟨2, ![256, 4096]⟩
abbrev S256x1024 : Shape := ⟨2, ![256, 1024]⟩
abbrev S256x128 : Shape := ⟨2, ![256, 128]⟩
abbrev S1x1x256x128 : Shape := ⟨4, ![1, 1, 256, 128]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S4096x22016, .f32⟩
  | .hbm, ⟨3, _⟩ => ⟨S4096x14336, .bf16⟩
  | .hbm, ⟨4, _⟩ => ⟨S2x32x8192x128, .bf16⟩
  | .hbm, ⟨5, _⟩ => ⟨S4096x22016, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x22016, .f32⟩
  | .local _ .vmem, ⟨5, _⟩ => ⟨S64x22016, .f32⟩
  | .local _ .vmem, ⟨6, _⟩ => ⟨S1x8x1024x128, .bf16⟩
  | .local _ .vmem, ⟨7, _⟩ => ⟨S1x8x1024x128, .bf16⟩
  | .local _ .vmem, ⟨8, _⟩ => ⟨S64x22016, .bf16⟩
  | .local _ .vmem, ⟨9, _⟩ => ⟨S64x22016, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c4_i32 : BitVec 32 := 4#32
  let v1 : BitVec 32 := Scalar.addi c4_i32 arg1
  let c10_i32 : BitVec 32 := 10#32
  let v2 : BitVec 32 := Scalar.addi c10_i32 arg1
  let v3 : BitVec 32 := Scalar.select v0 v1 v2
  let c0_i32 : BitVec 32 := 0#32
  let c0_i32_0 : BitVec 32 := 0#32
  ![c0_i32.toNat, v3.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x22016 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x22016 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ValRefIdeal.lean ====
abbrev S16384x4096 : Shape := ⟨2, ![16384, 4096]⟩
abbrev S4096x14336 : Shape := ⟨2, ![4096, 14336]⟩
abbrev S4096x22016 : Shape := ⟨2, ![4096, 22016]⟩
abbrev S2x8192x4096 : Shape := ⟨3, ![2, 8192, 4096]⟩
abbrev S2x8192x14336 : Shape := ⟨3, ![2, 8192, 14336]⟩
abbrev S2x8192x2048 : Shape := ⟨3, ![2, 8192, 2048]⟩
abbrev S2x8192x16x128 : Shape := ⟨4, ![2, 8192, 16, 128]⟩
abbrev S2x16x8192x128 : Shape := ⟨4, ![2, 16, 8192, 128]⟩
abbrev S2x32x8192x128 : Shape := ⟨4, ![2, 32, 8192, 128]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S4096x22016, .f32⟩
  | .hbm, ⟨3, _⟩ => ⟨S16384x4096, .f32⟩
  | .hbm, ⟨4, _⟩ => ⟨S2x8192x4096, .f32⟩
  | .hbm, ⟨5, _⟩ => ⟨S2x8192x14336, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x16x128, .f32⟩
  | .hbm, ⟨14, _⟩ => ⟨S2x8192x16x128, .f32⟩
  | .hbm, ⟨15, _⟩ => ⟨S2x16x8192x128, .f32⟩
  | .hbm, ⟨16, _⟩ => ⟨S2x16x8192x128, .f32⟩
  | .hbm, ⟨17, _⟩ => ⟨S2x32x8192x128, .f32⟩
  | .hbm, ⟨18, _⟩ => ⟨S2x32x8192x128, .bf16⟩
  | .hbm, ⟨19, _⟩ => ⟨S4096x22016, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Gate.lean ====
abbrev S16384x4096 : Shape := ⟨2, ![16384, 4096]⟩
abbrev S4096x14336 : Shape := ⟨2, ![4096, 14336]⟩
abbrev S4096x4096 : Shape := ⟨2, ![4096, 4096]⟩
abbrev S2x16x8192x128 : Shape := ⟨4, ![2, 16, 8192, 128]⟩
abbrev S1024x4096 : Shape := ⟨2, ![1024, 4096]⟩
abbrev S4096x1024 : Shape := ⟨2, ![4096, 1024]⟩
abbrev S128x4096 : Shape := ⟨2, ![128, 4096]⟩
abbrev S1x8x1024x128 : Shape := ⟨4, ![1, 8, 1024, 128]⟩
abbrev S256x4096 : Shape := ⟨2, ![256, 4096]⟩
abbrev S256x1024 : Shape := ⟨2, ![256, 1024]⟩
abbrev S256x128 : Shape := ⟨2, ![256, 128]⟩
abbrev S1x1x256x128 : Shape := ⟨4, ![1, 1, 256, 128]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S4096x4096, .f32⟩
  | .hbm, ⟨3, _⟩ => ⟨S4096x14336, .bf16⟩
  | .hbm, ⟨4, _⟩ => ⟨S2x16x8192x128, .f32⟩
  | .hbm, ⟨5, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S128x4096, .f32⟩
  | .local _ .vmem, ⟨5, _⟩ => ⟨S128x4096, .f32⟩
  | .local _ .vmem, ⟨6, _⟩ => ⟨S1x8x1024x128, .f32⟩
  | .local _ .vmem, ⟨7, _⟩ => ⟨S1x8x1024x128, .f32⟩
  | .local _ .vmem, ⟨8, _⟩ => ⟨S128x4096, .bf16⟩
  | .local _ .vmem, ⟨9, _⟩ => ⟨S128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateRefIdeal.lean ====
abbrev S16384x4096 : Shape := ⟨2, ![16384, 4096]⟩
abbrev S4096x14336 : Shape := ⟨2, ![4096, 14336]⟩
abbrev S4096x4096 : Shape := ⟨2, ![4096, 4096]⟩
abbrev S2x8192x4096 : Shape := ⟨3, ![2, 8192, 4096]⟩
abbrev S2x8192x14336 : Shape := ⟨3, ![2, 8192, 14336]⟩
abbrev S2x8192x2048 : Shape := ⟨3, ![2, 8192, 2048]⟩
abbrev S2x8192x16x128 : Shape := ⟨4, ![2, 8192, 16, 128]⟩
abbrev S2x16x8192x128 : Shape := ⟨4, ![2, 16, 8192, 128]⟩

abbrev nBuf : Space → Nat
  | .hbm => 16
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S4096x4096, .f32⟩
  | .hbm, ⟨3, _⟩ => ⟨S16384x4096, .f32⟩
  | .hbm, ⟨4, _⟩ => ⟨S2x8192x4096, .f32⟩
  | .hbm, ⟨5, _⟩ => ⟨S2x8192x14336, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x16x128, .f32⟩
  | .hbm, ⟨14, _⟩ => ⟨S2x16x8192x128, .f32⟩
  | .hbm, ⟨15, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Sbqk.lean ====
abbrev S16384x4096 : Shape := ⟨2, ![16384, 4096]⟩
abbrev S4096x14336 : Shape := ⟨2, ![4096, 14336]⟩
abbrev S128 : Shape := ⟨1, ![128]⟩
abbrev S1x128 : Shape := ⟨2, ![1, 128]⟩
abbrev S2x128 : Shape := ⟨2, ![2, 128]⟩
abbrev S2x1x128 : Shape := ⟨3, ![2, 1, 128]⟩
abbrev S2x32x8192x128 : Shape := ⟨4, ![2, 32, 8192, 128]⟩
abbrev S1024x4096 : Shape := ⟨2, ![1024, 4096]⟩
abbrev S4096x1024 : Shape := ⟨2, ![4096, 1024]⟩
abbrev S1x1x128 : Shape := ⟨3, ![1, 1, 128]⟩
abbrev S1x8x1024x128 : Shape := ⟨4, ![1, 8, 1024, 128]⟩
abbrev S256x4096 : Shape := ⟨2, ![256, 4096]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S1x1x256x128 : Shape := ⟨4, ![1, 1, 256, 128]⟩

abbrev nBuf : Space → Nat
  | .hbm => 10
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S128, .f32⟩
  | .hbm, ⟨3, _⟩ => ⟨S128, .f32⟩
  | .hbm, ⟨4, _⟩ => ⟨S1x128, .f32⟩
  | .hbm, ⟨5, _⟩ => ⟨S1x128, .f32⟩
  | .hbm, ⟨6, _⟩ => ⟨S2x128, .f32⟩
  | .hbm, ⟨7, _⟩ => ⟨S2x1x128, .f32⟩
  | .hbm, ⟨8, _⟩ => ⟨S4096x14336, .bf16⟩
  | .hbm, ⟨9, _⟩ => ⟨S2x32x8192x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x128, .f32⟩
  | .local _ .vmem, ⟨5, _⟩ => ⟨S1x1x128, .f32⟩
  | .local _ .vmem, ⟨6, _⟩ => ⟨S1x8x1024x128, .bf16⟩
  | .local _ .vmem, ⟨7, _⟩ => ⟨S1x8x1024x128, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg1.toNat, v26.toNat, c0_i32_10.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbqkRefIdeal.lean ====
abbrev S16384x4096 : Shape := ⟨2, ![16384, 4096]⟩
abbrev S4096x14336 : Shape := ⟨2, ![4096, 14336]⟩
abbrev S128 : Shape := ⟨1, ![128]⟩
abbrev S2x8192x4096 : Shape := ⟨3, ![2, 8192, 4096]⟩
abbrev S2x8192x14336 : Shape := ⟨3, ![2, 8192, 14336]⟩
abbrev S2x8192x2048 : Shape := ⟨3, ![2, 8192, 2048]⟩
abbrev S2x8192x16x128 : Shape := ⟨4, ![2, 8192, 16, 128]⟩
abbrev S_ : Shape := ⟨0, ![]⟩
abbrev S2x8192x16 : Shape := ⟨3, ![2, 8192, 16]⟩
abbrev S2x8192x16x1 : Shape := ⟨4, ![2, 8192, 16, 1]⟩
abbrev S1x1x1x128 : Shape := ⟨4, ![1, 1, 1, 128]⟩
abbrev S2x16x8192x128 : Shape := ⟨4, ![2, 16, 8192, 128]⟩
abbrev S2x32x8192x128 : Shape := ⟨4, ![2, 32, 8192, 128]⟩

abbrev nBuf : Space → Nat
  | .hbm => 52
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x14336, .f32⟩
  | .hbm, ⟨2, _⟩ => ⟨S128, .f32⟩
  | .hbm, ⟨3, _⟩ => ⟨S128, .f32⟩
  | .hbm, ⟨4, _⟩ => ⟨S16384x4096, .f32⟩
  | .hbm, ⟨5, _⟩ => ⟨S2x8192x4096, .f32⟩
  | .hbm, ⟨6, _⟩ => ⟨S2x8192x14336, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S2x8192x2048, .f32⟩
  | .hbm, ⟨13, _⟩ => ⟨S2x8192x2048, .f32⟩
  | .hbm, ⟨14, _⟩ => ⟨S2x8192x16x128, .f32⟩
  | .hbm, ⟨15, _⟩ => ⟨S2x8192x16x128, .f32⟩
  | .hbm, ⟨16, _⟩ => ⟨S_, .f32⟩
  | .hbm, ⟨17, _⟩ => ⟨S2x8192x16, .f32⟩
  | .hbm, ⟨18, _⟩ => ⟨S2x8192x16x1, .f32⟩
  | .hbm, ⟨19, _⟩ => ⟨S_, .f32⟩
  | .hbm, ⟨20, _⟩ => ⟨S2x8192x16x1, .f32⟩
  | .hbm, ⟨21, _⟩ => ⟨S2x8192x16x1, .f32⟩
  | .hbm, ⟨22, _⟩ => ⟨S_, .f32⟩
  | .hbm, ⟨23, _⟩ => ⟨S2x8192x16x1, .f32⟩
  | .hbm, ⟨24, _⟩ => ⟨S2x8192x16x1, .f32⟩
  | .hbm, ⟨25, _⟩ => ⟨S2x8192x16x1, .f32⟩
  | .hbm, ⟨26, _⟩ => ⟨S2x8192x16x128, .f32⟩
  | .hbm, ⟨27, _⟩ => ⟨S2x8192x16x128, .f32⟩
  | .hbm, ⟨28, _⟩ => ⟨S1x1x1x128, .f32⟩
  | .hbm, ⟨29, _⟩ => ⟨S2x8192x16x128, .f32⟩
  | .hbm, ⟨30, _⟩ => ⟨S2x8192x16x128, .f32⟩
  | .hbm, ⟨31, _⟩ => ⟨S2x8192x16x128, .f32⟩
  | .hbm, ⟨32, _⟩ => ⟨S2x8192x16x128, .f32⟩
  | .hbm, ⟨33, _⟩ => ⟨S_, .f32⟩
  | .hbm, ⟨34, _⟩ => ⟨S2x8192x16, .f32⟩
  | .hbm, ⟨35, _⟩ => ⟨S2x8192x16x1, .f32⟩
  | .hbm, ⟨36, _⟩ => ⟨S_, .f32⟩
  | .hbm, ⟨37, _⟩ => ⟨S2x8192x16x1, .f32⟩
  | .hbm, ⟨38, _⟩ => ⟨S2x8192x16x1, .f32⟩
  | .hbm, ⟨39, _⟩ => ⟨S_, .f32⟩
  | .hbm, ⟨40, _⟩ => ⟨S2x8192x16x1, .f32⟩
  | .hbm, ⟨41, _⟩ => ⟨S2x8192x16x1, .f32⟩
  | .hbm, ⟨42, _⟩ => ⟨S2x8192x16x1, .f32⟩
  | .hbm, ⟨43, _⟩ => ⟨S2x8192x16x128, .f32⟩
  | .hbm, ⟨44, _⟩ => ⟨S2x8192x16x128, .f32⟩
  | .hbm, ⟨45, _⟩ => ⟨S1x1x1x128, .f32⟩
  | .hbm, ⟨46, _⟩ => ⟨S2x8192x16x128, .f32⟩
  | .hbm, ⟨47, _⟩ => ⟨S2x8192x16x128, .f32⟩
  | .hbm, ⟨48, _⟩ => ⟨S2x16x8192x128, .f32⟩
  | .hbm, ⟨49, _⟩ => ⟨S2x16x8192x128, .f32⟩
  | .hbm, ⟨50, _⟩ => ⟨S2x32x8192x128, .f32⟩
  | .hbm, ⟨51, _⟩ => ⟨S2x32x8192x128, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Out.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 5
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .bf16⟩
  | .hbm, ⟨3, _⟩ => ⟨S16384x4096, .f32⟩
  | .hbm, ⟨4, _⟩ => ⟨S16384x2048, .f32⟩
  | .hbm, ⟨5, _⟩ => ⟨S16384x2048, .f32⟩
  | .hbm, ⟨6, _⟩ => ⟨S16384x4096, .f32⟩
  | .hbm, ⟨7, _⟩ => ⟨S4096x4096, .f32⟩
  | .hbm, ⟨8, _⟩ => ⟨S16384x4096, .f32⟩
  | .hbm, ⟨9, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Cross.lean ====
abbrev S16384x4096 : Shape := ⟨2, ![16384, 4096]⟩
abbrev S4096 : Shape := ⟨1, ![4096]⟩
abbrev S4096x512 : Shape := ⟨2, ![4096, 512]⟩
abbrev S128 : Shape := ⟨1, ![128]⟩
abbrev S2x256x512 : Shape := ⟨3, ![2, 256, 512]⟩
abbrev S512x4096 : Shape := ⟨2, ![512, 4096]⟩
abbrev S1x4096 : Shape := ⟨2, ![1, 4096]⟩
abbrev S1x128 : Shape := ⟨2, ![1, 128]⟩
abbrev S256x4096 : Shape := ⟨2, ![256, 4096]⟩
abbrev S1x256x512 : Shape := ⟨3, ![1, 256, 512]⟩
abbrev S128x4096 : Shape := ⟨2, ![128, 4096]⟩
abbrev S128x1 : Shape := ⟨2, ![128, 1]⟩
abbrev S128x512 : Shape := ⟨2, ![128, 512]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩

abbrev nBuf : Space → Nat
  | .hbm => 15
  | .vmem => 15
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S128, .f32⟩
  | .hbm, ⟨4, _⟩ => ⟨S2x256x512, .bf16⟩
  | .hbm, ⟨5, _⟩ => ⟨S2x256x512, .bf16⟩
  | .hbm, ⟨6, _⟩ => ⟨S512x4096, .f32⟩
  | .hbm, ⟨7, _⟩ => ⟨S4096, .f32⟩
  | .hbm, ⟨8, _⟩ => ⟨S4096x512, .bf16⟩
  | .hbm, ⟨9, _⟩ => ⟨S512x4096, .bf16⟩
  | .hbm, ⟨10, _⟩ => ⟨S1x4096, .f32⟩
  | .hbm, ⟨11, _⟩ => ⟨S1x128, .f32⟩
  | .hbm, ⟨12, _⟩ => ⟨S1x4096, .f32⟩
  | .hbm, ⟨13, _⟩ => ⟨S16384x4096, .f32⟩
  | .hbm, ⟨14, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x512, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S512x4096, .bf16⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CrossRefIdeal.lean ====
abbrev S16384x4096 : Shape := ⟨2, ![16384, 4096]⟩
abbrev S4096 : Shape := ⟨1, ![4096]⟩
abbrev S4096x512 : Shape := ⟨2, ![4096, 512]⟩
abbrev S128 : Shape := ⟨1, ![128]⟩
abbrev S2x256x512 : Shape := ⟨3, ![2, 256, 512]⟩
abbrev S512x4096 : Shape := ⟨2, ![512, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x8192x512 : Shape := ⟨3, ![2, 8192, 512]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x128x8192 : Shape := ⟨4, ![2, 4, 128, 8192]⟩

abbrev nBuf : Space → Nat
  | .hbm => 89
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096x512, .f32⟩
  | .hbm, ⟨3, _⟩ => ⟨S128, .f32⟩
  | .hbm, ⟨4, _⟩ => ⟨S2x256x512, .bf16⟩
  | .hbm, ⟨5, _⟩ => ⟨S2x256x512, .bf16⟩
  | .hbm, ⟨6, _⟩ => ⟨S512x4096, .f32⟩
  | .hbm, ⟨7, _⟩ => ⟨S4096, .f32⟩
  | .hbm, ⟨8, _⟩ => ⟨S2x8192x4096, .f32⟩
  | .hbm, ⟨9, _⟩ => ⟨S2x8192x4096, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x4096, .f32⟩
  | .hbm, ⟨21, _⟩ => ⟨S2x8192x4096, .f32⟩
  | .hbm, ⟨22, _⟩ => ⟨S1x1x4096, .f32⟩
  | .hbm, ⟨23, _⟩ => ⟨S2x8192x4096, .f32⟩
  | .hbm, ⟨24, _⟩ => ⟨S2x8192x4096, .f32⟩
  | .hbm, ⟨25, _⟩ => ⟨S2x8192x512, .f32⟩
  | .hbm, ⟨26, _⟩ => ⟨S2x8192x4x128, .f32⟩
  | .hbm, ⟨27, _⟩ => ⟨S2x8192x4x128, .f32⟩
  | .hbm, ⟨28, _⟩ => ⟨S_, .f32⟩
  | .hbm, ⟨29, _⟩ => ⟨S2x8192x4, .f32⟩
  | .hbm, ⟨30, _⟩ => ⟨S2x8192x4x1, .f32⟩
  | .hbm, ⟨31, _⟩ => ⟨S_, .f32⟩
  | .hbm, ⟨32, _⟩ => ⟨S2x8192x4x1, .f32⟩
  | .hbm, ⟨33, _⟩ => ⟨S2x8192x4x1, .f32⟩
  | .hbm, ⟨34, _⟩ => ⟨S_, .f32⟩
  | .hbm, ⟨35, _⟩ => ⟨S2x8192x4x1, .f32⟩
  | .hbm, ⟨36, _⟩ => ⟨S2x8192x4x1, .f32⟩
  | .hbm, ⟨37, _⟩ => ⟨S2x8192x4x1, .f32⟩
  | .hbm, ⟨38, _⟩ => ⟨S2x8192x4x128, .f32⟩
  | .hbm, ⟨39, _⟩ => ⟨S2x8192x4x128, .f32⟩
  | .hbm, ⟨40, _⟩ => ⟨S1x1x1x128, .f32⟩
  | .hbm, ⟨41, _⟩ => ⟨S2x8192x4x128, .f32⟩
  | .hbm, ⟨42, _⟩ => ⟨S2x8192x4x128, .f32⟩
  | .hbm, ⟨43, _⟩ => ⟨S2x256x512, .f32⟩
  | .hbm, ⟨44, _⟩ => ⟨S2x256x4x128, .f32⟩
  | .hbm, ⟨45, _⟩ => ⟨S2x256x512, .f32⟩
  | .hbm, ⟨46, _⟩ => ⟨S2x256x4x128, .f32⟩
  | .hbm, ⟨47, _⟩ => ⟨S2x4x8192x256, .f32⟩
  | .hbm, ⟨48, _⟩ => ⟨S_, .f32⟩
  | .hbm, ⟨49, _⟩ => ⟨S2x4x8192x256, .f32⟩
  | .hbm, ⟨50, _⟩ => ⟨S2x4x8192x256, .f32⟩
  | .hbm, ⟨51, _⟩ => ⟨S_, .f32⟩
  | .hbm, ⟨52, _⟩ => ⟨S2x4x8192, .f32⟩
  | .hbm, ⟨53, _⟩ => ⟨S_, .f32⟩
  | .hbm, ⟨54, _⟩ => ⟨S2x4x8192, .f32⟩
  | .hbm, ⟨55, _⟩ => ⟨S2x4x8192, .f32⟩
  | .hbm, ⟨56, _⟩ => ⟨S2x4x8192x1, .f32⟩
  | .hbm, ⟨57, _⟩ => ⟨S2x4x8192x256, .f32⟩
  | .hbm, ⟨58, _⟩ => ⟨S2x4x8192x256, .f32⟩
  | .hbm, ⟨59, _⟩ => ⟨S2x4x8192x256, .f32⟩
  | .hbm, ⟨60, _⟩ => ⟨S_, .f32⟩
  | .hbm, ⟨61, _⟩ => ⟨S2x4x8192, .f32⟩
  | .hbm, ⟨62, _⟩ => ⟨S2x4x8192x1, .f32⟩
  | .hbm, ⟨63, _⟩ => ⟨S2x4x8192x256, .f32⟩
  | .hbm, ⟨64, _⟩ => ⟨S2x4x8192x256, .f32⟩
  | .hbm, ⟨65, _⟩ => ⟨S2x4x128x8192, .f32⟩
  | .hbm, ⟨66, _⟩ => ⟨S2x8192x4x128, .f32⟩
  | .hbm, ⟨67, _⟩ => ⟨S2x8192x512, .f32⟩
  | .hbm, ⟨68, _⟩ => ⟨S2x8192x4096, .f32⟩
  | .hbm, ⟨69, _⟩ => ⟨S2x8192x4096, .f32⟩
  | .hbm, ⟨70, _⟩ => ⟨S2x8192x4096, .f32⟩
  | .hbm, ⟨71, _⟩ => ⟨S_, .f32⟩
  | .hbm, ⟨72, _⟩ => ⟨S2x8192, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S_, .f32⟩
  | .hbm, ⟨78, _⟩ => ⟨S2x8192x1, .f32⟩
  | .hbm, ⟨79, _⟩ => ⟨S2x8192x1, .f32⟩
  | .hbm, ⟨80, _⟩ => ⟨S2x8192x1, .f32⟩
  | .hbm, ⟨81, _⟩ => ⟨S2x8192x4096, .f32⟩
  | .hbm, ⟨82, _⟩ => ⟨S2x8192x4096, .f32⟩
  | .hbm, ⟨83, _⟩ => ⟨S1x1x4096, .f32⟩
  | .hbm, ⟨84, _⟩ => ⟨S2x8192x4096, .f32⟩
  | .hbm, ⟨85, _⟩ => ⟨S2x8192x4096, .f32⟩
  | .hbm, ⟨86, _⟩ => ⟨S16384x4096, .f32⟩
  | .hbm, ⟨87, _⟩ => ⟨S16384x4096, .f32⟩
  | .hbm, ⟨88, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Up.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S1x22016 : Shape := ⟨2, ![1, 22016]⟩
abbrev S16384x11008 : Shape := ⟨2, ![16384, 11008]⟩
abbrev S2048x4096 : Shape := ⟨2, ![2048, 4096]⟩
abbrev S4096x256 : Shape := ⟨2, ![4096, 256]⟩
abbrev S3x256 : Shape := ⟨2, ![3, 256]⟩
abbrev S1x256 : Shape := ⟨2, ![1, 256]⟩
abbrev S32x4096 : Shape := ⟨2, ![32, 4096]⟩
abbrev S2048x256 : Shape := ⟨2, ![2048, 256]⟩
abbrev S2x2x2x264x128 : Shape := ⟨5, ![2, 2, 2, 264, 128]⟩
abbrev S43x2x2x8x128 : Shape := ⟨5, ![43, 2, 2, 8, 128]⟩
abbrev S256x4096 : Shape := ⟨2, ![256, 4096]⟩
abbrev S256x256 : Shape := ⟨2, ![256, 256]⟩
abbrev S1x1x1x8x128 : Shape := ⟨5, ![1, 1, 1, 8, 128]⟩
abbrev S8x128 : Shape := ⟨2, ![8, 128]⟩
abbrev S256x128 : Shape := ⟨2, ![256, 128]⟩
abbrev S1x1x1x256x128 : Shape := ⟨5, ![1, 1, 1, 256, 128]⟩
abbrev S3x128 : Shape := ⟨2, ![3, 128]⟩
abbrev S1x128 : Shape := ⟨2, ![1, 128]⟩

abbrev nBuf : Space → Nat
  | .hbm => 8
  | .vmem => 22
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .bf16⟩
  | .hbm, ⟨2, _⟩ => ⟨S3x22016, .f32⟩
  | .hbm, ⟨3, _⟩ => ⟨S22016, .f32⟩
  | .hbm, ⟨4, _⟩ => ⟨S11008x4096, .f32⟩
  | .hbm, ⟨5, _⟩ => ⟨S1x22016, .f32⟩
  | .hbm, ⟨6, _⟩ => ⟨S16384x11008, .bf16⟩
  | .hbm, ⟨7, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S3x256, .f32⟩
  | .local _ .vmem, ⟨7, _⟩ => ⟨S3x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S32x4096, .f32⟩
  | .local _ .vmem, ⟨15, _⟩ => ⟨S32x4096, .f32⟩
  | .local _ .vmem, ⟨16, _⟩ => ⟨S2048x256, .bf16⟩
  | .local _ .vmem, ⟨17, _⟩ => ⟨S2048x256, .bf16⟩
  | .local _ .vmem, ⟨18, _⟩ => ⟨S32x4096, .bf16⟩
  | .local _ .vmem, ⟨19, _⟩ => ⟨S32x4096, .bf16⟩
  | .local _ .vmem, ⟨20, _⟩ => ⟨S2x2x2x264x128, .f32⟩
  | .local _ .vmem, ⟨21, _⟩ => ⟨S43x2x2x8x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 43], ![false, false]⟩

def k0_off1 (i : grid0.Coords) : Fin 5 → Nat :=
  let arg1 : BitVec 32 := BitVec.ofNat 32 (i 1).val
  let v22 : Index := Scalar.indexCast arg1
  let c0_14 : Index := 0#32
  let c0_15 : Index := 0#32
  let c0_16 : Index := 0#32
  let c0_17 : Index := 0#32
  ![v22.toNat, 0, 0, 0, 0]
def k0_off2 (i : grid0.Coords) : Fin 5 → Nat :=
  let arg1 : BitVec 32 := BitVec.ofNat 32 (i 1).val
  let v34 : Index := Scalar.indexCast arg1
  let c0_28 : Index := 0#32
  let c1 : Index := 1#32
  let c0_29 : Index := 0#32
  let c0_30 : Index := 0#32
  ![v34.toNat, 0, 1, 0, 0]
def k0_off3 (i : grid0.Coords) : Fin 5 → Nat :=
  let arg1 : BitVec 32 := BitVec.ofNat 32 (i 1).val
  let v48 : Index := Scalar.indexCast arg1
  let c1_45 : Index := 1#32
  let c0_46 : Index := 0#32
  let c0_47 : Index := 0#32
  let c0_48 : Index := 0#32
  ![v48.toNat, 1, 0, 0, 0]
def k0_off4 (i : grid0.Coords) : Fin 5 → Nat :=
  let arg1 : BitVec 32 := BitVec.ofNat 32 (i 1).val
  let v60 : Index := Scalar.indexCast arg1
  let c1_60 : Index := 1#32
  let c1_61 : Index := 1#32
  let c0_62 : Index := 0#32
  let c0_63 : Index := 0#32
  ![v60.toNat, 1, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== UpRefIdeal.lean ====
abbrev S16384x4096 : Shape := ⟨2, ![16384, 4096]⟩
abbrev S4096x22016 : Shape := ⟨2, ![4096, 22016]⟩
abbrev S3x22016 : Shape := ⟨2, ![3, 22016]⟩
abbrev S22016 : Shape := ⟨1, ![22016]⟩
abbrev S11008x4096 : Shape := ⟨2, ![11008, 4096]⟩
abbrev S2x8192x4096 : Shape := ⟨3, ![2, 8192, 4096]⟩
abbrev S2x8192x22016 : Shape := ⟨3, ![2, 8192, 22016]⟩
abbrev S_ : Shape := ⟨0, ![]⟩
abbrev S2x8194x22016 : Shape := ⟨3, ![2, 8194, 22016]⟩
abbrev S1x22016 : Shape := ⟨2, ![1, 22016]⟩
abbrev S1x1x22016 : Shape := ⟨3, ![1, 1, 22016]⟩
abbrev S2x8192x11008 : Shape := ⟨3, ![2, 8192, 11008]⟩
abbrev S16384x11008 : Shape := ⟨2, ![16384, 11008]⟩

abbrev nBuf : Space → Nat
  | .hbm => 50
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .bf16⟩
  | .hbm, ⟨2, _⟩ => ⟨S3x22016, .f32⟩
  | .hbm, ⟨3, _⟩ => ⟨S22016, .f32⟩
  | .hbm, ⟨4, _⟩ => ⟨S11008x4096, .f32⟩
  | .hbm, ⟨5, _⟩ => ⟨S16384x4096, .f32⟩
  | .hbm, ⟨6, _⟩ => ⟨S2x8192x4096, .f32⟩
  | .hbm, ⟨7, _⟩ => ⟨S4096x22016, .f32⟩
  | .hbm, ⟨8, _⟩ => ⟨S2x8192x22016, .f32⟩
  | .hbm, ⟨9, _⟩ => ⟨S_, .i32⟩
  | .hbm, ⟨10, _⟩ => ⟨S_, .f32⟩
  | .hbm, ⟨11, _⟩ => ⟨S2x8194x22016, .f32⟩
  | .hbm, ⟨12, _⟩ => ⟨S2x8192x22016, .f32⟩
  | .hbm, ⟨13, _⟩ => ⟨S1x22016, .f32⟩
  | .hbm, ⟨14, _⟩ => ⟨S22016, .f32⟩
  | .hbm, ⟨15, _⟩ => ⟨S1x1x22016, .f32⟩
  | .hbm, ⟨16, _⟩ => ⟨S2x8192x22016, .f32⟩
  | .hbm, ⟨17, _⟩ => ⟨S2x8192x22016, .f32⟩
  | .hbm, ⟨18, _⟩ => ⟨S1x1x22016, .f32⟩
  | .hbm, ⟨19, _⟩ => ⟨S2x8192x22016, .f32⟩
  | .hbm, ⟨20, _⟩ => ⟨S2x8192x22016, .f32⟩
  | .hbm, ⟨21, _⟩ => ⟨S2x8192x22016, .f32⟩
  | .hbm, ⟨22, _⟩ => ⟨S1x22016, .f32⟩
  | .hbm, ⟨23, _⟩ => ⟨S22016, .f32⟩
  | .hbm, ⟨24, _⟩ => ⟨S1x1x22016, .f32⟩
  | .hbm, ⟨25, _⟩ => ⟨S2x8192x22016, .f32⟩
  | .hbm, ⟨26, _⟩ => ⟨S2x8192x22016, .f32⟩
  | .hbm, ⟨27, _⟩ => ⟨S2x8192x22016, .f32⟩
  | .hbm, ⟨28, _⟩ => ⟨S2x8192x22016, .f32⟩
  | .hbm, ⟨29, _⟩ => ⟨S1x22016, .f32⟩
  | .hbm, ⟨30, _⟩ => ⟨S22016, .f32⟩
  | .hbm, ⟨31, _⟩ => ⟨S1x1x22016, .f32⟩
  | .hbm, ⟨32, _⟩ => ⟨S2x8192x22016, .f32⟩
  | .hbm, ⟨33, _⟩ => ⟨S2x8192x22016, .f32⟩
  | .hbm, ⟨34, _⟩ => ⟨S2x8192x22016, .f32⟩
  | .hbm, ⟨35, _⟩ => ⟨S2x8192x11008, .f32⟩
  | .hbm, ⟨36, _⟩ => ⟨S2x8192x11008, .f32⟩
  | .hbm, ⟨37, _⟩ => ⟨S2x8192x11008, .f32⟩
  | .hbm, ⟨38, _⟩ => ⟨S2x8192x11008, .f32⟩
  | .hbm, ⟨39, _⟩ => ⟨S_, .f32⟩
  | .hbm, ⟨40, _⟩ => ⟨S2x8192x11008, .f32⟩
  | .hbm, ⟨41, _⟩ => ⟨S2x8192x11008, .f32⟩
  | .hbm, ⟨42, _⟩ => ⟨S_, .f32⟩
  | .hbm, ⟨43, _⟩ => ⟨S2x8192x11008, .f32⟩
  | .hbm, ⟨44, _⟩ => ⟨S2x8192x11008, .f32⟩
  | .hbm, ⟨45, _⟩ => ⟨S2x8192x11008, .f32⟩
  | .hbm, ⟨46, _⟩ => ⟨S2x8192x11008, .f32⟩
  | .hbm, ⟨47, _⟩ => ⟨S16384x11008, .f32⟩
  | .hbm, ⟨48, _⟩ => ⟨S16384x11008, .bf16⟩
  | .hbm, ⟨49, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Down.lean ====
abbrev S16384x11008 : Shape := ⟨2, ![16384, 11008]⟩
abbrev S11008x4096 : Shape := ⟨2, ![11008, 4096]⟩
abbrev S16384x4096 : Shape := ⟨2, ![16384, 4096]⟩
abbrev S512x11008 : Shape := ⟨2, ![512, 11008]⟩
abbrev S11008x1024 : Shape := ⟨2, ![11008, 1024]⟩
abbrev S512x1024 : Shape := ⟨2, ![512, 1024]⟩
abbrev S256x1024 : Shape := ⟨2, ![256, 1024]⟩
abbrev S256x11008 : Shape := ⟨2, ![256, 11008]⟩

abbrev nBuf : Space → Nat
  | .hbm => 4
  | .vmem => 7
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S11008x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S16384x11008 : Shape := ⟨2, ![16384, 11008]⟩
abbrev S11008x4096 : Shape := ⟨2, ![11008, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S16384x11008, .f32⟩
  | .hbm, ⟨4, _⟩ => ⟨S11008x4096, .f32⟩
  | .hbm, ⟨5, _⟩ => ⟨S16384x4096, .f32⟩
  | .hbm, ⟨6, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Memkv.lean ====
abbrev S2x256x4096 : Shape := ⟨3, ![2, 256, 4096]⟩
abbrev S4096 : Shape := ⟨1, ![4096]⟩
abbrev S4096x1024 : Shape := ⟨2, ![4096, 1024]⟩
abbrev S128 : Shape := ⟨1, ![128]⟩
abbrev S1x4096 : Shape := ⟨2, ![1, 4096]⟩
abbrev S1x128 : Shape := ⟨2, ![1, 128]⟩
abbrev S2x256x512 : Shape := ⟨3, ![2, 256, 512]⟩
abbrev S1x256x4096 : Shape := ⟨3, ![1, 256, 4096]⟩
abbrev S1x256x512 : Shape := ⟨3, ![1, 256, 512]⟩
abbrev S256x4096 : Shape := ⟨2, ![256, 4096]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S1x256x128 : Shape := ⟨3, ![1, 256, 128]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S2x256x4096, .f32⟩
  | .hbm, ⟨1, _⟩ => ⟨S4096, .f32⟩
  | .hbm, ⟨2, _⟩ => ⟨S4096x1024, .f32⟩
  | .hbm, ⟨3, _⟩ => ⟨S128, .f32⟩
  | .hbm, ⟨4, _⟩ => ⟨S4096x1024, .bf16⟩
  | .hbm, ⟨5, _⟩ => ⟨S1x4096, .f32⟩
  | .hbm, ⟨6, _⟩ => ⟨S1x128, .f32⟩
  | .hbm, ⟨7, _⟩ => ⟨S2x256x512, .bf16⟩
  | .hbm, ⟨8, _⟩ => ⟨S2x256x512, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S4096x1024, .bf16⟩
  | .local _ .vmem, ⟨4, _⟩ => ⟨S1x128, .f32⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemkvRefIdeal.lean ====
abbrev S2x256x4096 : Shape := ⟨3, ![2, 256, 4096]⟩
abbrev S4096 : Shape := ⟨1, ![4096]⟩
abbrev S4096x1024 : Shape := ⟨2, ![4096, 1024]⟩
abbrev S128 : Shape := ⟨1, ![128]⟩
abbrev S_ : Shape := ⟨0, ![]⟩
abbrev S2x256 : Shape := ⟨2, ![2, 256]⟩
abbrev S2x256x1 : Shape := ⟨3, ![2, 256, 1]⟩
abbrev S1x1x4096 : Shape := ⟨3, ![1, 1, 4096]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S1x1x1x128 : Shape := ⟨4, ![1, 1, 1, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096, .f32⟩
  | .hbm, ⟨2, _⟩ => ⟨S4096x1024, .f32⟩
  | .hbm, ⟨3, _⟩ => ⟨S128, .f32⟩
  | .hbm, ⟨4, _⟩ => ⟨S2x256x4096, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x4096, .f32⟩
  | .hbm, ⟨16, _⟩ => ⟨S2x256x4096, .f32⟩
  | .hbm, ⟨17, _⟩ => ⟨S1x1x4096, .f32⟩
  | .hbm, ⟨18, _⟩ => ⟨S2x256x4096, .f32⟩
  | .hbm, ⟨19, _⟩ => ⟨S2x256x4096, .f32⟩
  | .hbm, ⟨20, _⟩ => ⟨S2x256x1024, .f32⟩
  | .hbm, ⟨21, _⟩ => ⟨S2x256x512, .f32⟩
  | .hbm, ⟨22, _⟩ => ⟨S2x256x512, .f32⟩
  | .hbm, ⟨23, _⟩ => ⟨S2x256x4x128, .f32⟩
  | .hbm, ⟨24, _⟩ => ⟨S2x256x4x128, .f32⟩
  | .hbm, ⟨25, _⟩ => ⟨S_, .f32⟩
  | .hbm, ⟨26, _⟩ => ⟨S2x256x4, .f32⟩
  | .hbm, ⟨27, _⟩ => ⟨S2x256x4x1, .f32⟩
  | .hbm, ⟨28, _⟩ => ⟨S_, .f32⟩
  | .hbm, ⟨29, _⟩ => ⟨S2x256x4x1, .f32⟩
  | .hbm, ⟨30, _⟩ => ⟨S2x256x4x1, .f32⟩
  | .hbm, ⟨31, _⟩ => ⟨S_, .f32⟩
  | .hbm, ⟨32, _⟩ => ⟨S2x256x4x1, .f32⟩
  | .hbm, ⟨33, _⟩ => ⟨S2x256x4x1, .f32⟩
  | .hbm, ⟨34, _⟩ => ⟨S2x256x4x1, .f32⟩
  | .hbm, ⟨35, _⟩ => ⟨S2x256x4x128, .f32⟩
  | .hbm, ⟨36, _⟩ => ⟨S2x256x4x128, .f32⟩
  | .hbm, ⟨37, _⟩ => ⟨S1x1x1x128, .f32⟩
  | .hbm, ⟨38, _⟩ => ⟨S2x256x4x128, .f32⟩
  | .hbm, ⟨39, _⟩ => ⟨S2x256x4x128, .f32⟩
  | .hbm, ⟨40, _⟩ => ⟨S2x256x512, .f32⟩
  | .hbm, ⟨41, _⟩ => ⟨S2x256x512, .bf16⟩
  | .hbm, ⟨42, _⟩ => ⟨S2x256x512, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Norm.lean ====
abbrev S2x8192x4096 : Shape := ⟨3, ![2, 8192, 4096]⟩
abbrev S4096 : Shape := ⟨1, ![4096]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S2x8192x4096 : Shape := ⟨3, ![2, 8192, 4096]⟩
abbrev S4096 : Shape := ⟨1, ![4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S16384x4096 : Shape := ⟨2, ![16384, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S2x8192x4096, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x4096, .f32⟩
  | .hbm, ⟨14, _⟩ => ⟨S2x8192x4096, .f32⟩
  | .hbm, ⟨15, _⟩ => ⟨S1x1x4096, .f32⟩
  | .hbm, ⟨16, _⟩ => ⟨S2x8192x4096, .f32⟩
  | .hbm, ⟨17, _⟩ => ⟨S2x8192x4096, .f32⟩
  | .hbm, ⟨18, _⟩ => ⟨S16384x4096, .f32⟩
  | .hbm, ⟨19, _⟩ => ⟨S16384x4096, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.RetValue.lean ====
/- The frames of retention's ideal kernel and of its reference, brought together; its value is not proved. -/
module

public import proofs.«01_k».proof.Proof.Gen.RetIdeal.Frame
public import proofs.«01_k».proof.Proof.Gen.RetRefIdeal.Run
public import Idealize.ShloMosaic.Lib.Pipeline.ValueKit

@[expose] public section
-- ==== Proof.UpRead.lean ====
/- Reading back the up projection's row buffer: eight rows of history above 256 fresh rows, stored as two pieces. -/
module

public import Idealize.ShloMosaic.Lib.Pipeline.ValueKit
public import Idealize.ShloMosaic.Lib.Pipeline.ReadBack
public import Idealize.ShloMosaic.Lib.Writes

@[expose] public section

noncomputable section

open Idealize.ShloMosaic

namespace Cert.UpIdeal.Value

/-- The buffer: parity, projection, lane tile, row, lane. -/
abbrev Rows : Shape := ⟨5, ![2, 2, 2, 264, 128]⟩
/-- The fresh rows of one lane tile. -/
abbrev Fresh : Shape := ⟨5, ![1, 1, 1, 256, 128]⟩
/-- The history of one lane tile. -/
abbrev Past : Shape := ⟨5, ![1, 1, 1, 8, 128]⟩

variable {sig : RefSig} {κ : Kind} {sp : Space} {e : EltTy} {Val : EltTy → Type} [∀ e, Nonempty (Val e)]

/-- The last eight rows, read after the fresh rows were stored: the fresh rows' last eight. -/
theorem read_last (v : View sig κ sp Rows e) (p q l : ℕ) (hb : ∀ a, (![p, q, l, 8, 0] : Fin 5 → ℕ) a + ![1, 1, 1, 256, 128] a ≤ Rows.size a)
    (w : Fresh.Idx → Val e) (L : List (View.Piece Val Rows e))
    (hr : ∀ a, (![p, q, l, 256, 0] : Fin 5 → ℕ) a + ![1, 1, 1, 8, 128] a ≤ Rows.size a) :
    v.readCov ((⟨Rect.unit (s := Rows) ![p, q, l, 8, 0] ![1, 1, 1, 256, 128] hb, w⟩ : View.Piece Val Rows e) :: L)
        (Rect.unit (s := Rows) ![p, q, l, 256, 0] ![1, 1, 1, 8, 128] hr).toLoadRect
      = fun j : Past.Idx => w (ix5 0 0 0 ⟨(j 3).val + 248, by have : (j 3).val < 8 := (j 3).isLt; omega⟩ (j 4)) := by
  rw [View.readCov_eq_canon']
  funext j
  have h3 : (j 3).val < 8 := (j 3).isLt
  have e1 : (Rect.unit (s := Rows) ![p, q, l, 256, 0] ![1, 1, 1, 8, 128] hr).toLoadRect.idx j
      = (Rect.unit (s := Rows) ![p, q, l, 8, 0] ![1, 1, 1, 256, 128] hb).emb
          (ix5 0 0 0 ⟨(j 3).val + 248, by omega⟩ (j 4)) := by
    funext a
    have h0 : (j 0).val < 1 := (j 0).isLt
    have h1 : (j 1).val < 1 := (j 1).isLt
    have h2 : (j 2).val < 1 := (j 2).isLt
    fin_cases a <;> (apply Fin.ext; simp [Rect.emb, LoadRect.idx, Rect.toLoadRect, Rect.unit, ix5]; try omega)
  rw [e1]
  exact View.canon_cons_emb _ _ _ _

/-- 256 rows from row `o ≤ 8`, read after the history and the fresh rows were stored: the history's rows from `o` on, then
    the fresh rows. -/
theorem read_from (v : View sig κ sp Rows e) (o : ℕ) (ho : o ≤ 8) (p q l : ℕ)
    (hb : ∀ a, (![p, q, l, 8, 0] : Fin 5 → ℕ) a + ![1, 1, 1, 256, 128] a ≤ Rows.size a)
    (w : Fresh.Idx → Val e)
    (hz : ∀ a, (![p, q, l, 0, 0] : Fin 5 → ℕ) a + ![1, 1, 1, 8, 128] a ≤ Rows.size a)
    (z : Past.Idx → Val e) (L : List (View.Piece Val Rows e))
    (hr : ∀ a, (![p, q, l, o, 0] : Fin 5 → ℕ) a + ![1, 1, 1, 256, 128] a ≤ Rows.size a) :
    v.readCov ((⟨Rect.unit (s := Rows) ![p, q, l, 8, 0] ![1, 1, 1, 256, 128] hb, w⟩ : View.Piece Val Rows e)
          :: (⟨Rect.unit (s := Rows) ![p, q, l, 0, 0] ![1, 1, 1, 8, 128] hz, z⟩ : View.Piece Val Rows e) :: L)
        (Rect.unit (s := Rows) ![p, q, l, o, 0] ![1, 1, 1, 256, 128] hr).toLoadRect
      = fun j : Fresh.Idx => if h : (j 3).val + o < 8 then z (ix5 0 0 0 ⟨(j 3).val + o, h⟩ (j 4))
          else w (ix5 0 0 0 ⟨(j 3).val + o - 8, by have : (j 3).val < 256 := (j 3).isLt; omega⟩ (j 4)) := by
  rw [View.readCov_eq_canon']
  funext j
  have h3 : (j 3).val < 256 := (j 3).isLt
  have h0 : (j 0).val < 1 := (j 0).isLt
  have h1 : (j 1).val < 1 := (j 1).isLt
  have h2 : (j 2).val < 1 := (j 2).isLt
  by_cases h : (j 3).val + o < 8
  · rw [dif_pos h]
    rw [View.canon_cons_of_not_mem]
    · have e1 : (Rect.unit (s := Rows) ![p, q, l, o, 0] ![1, 1, 1, 256, 128] hr).toLoadRect.idx j
          = (Rect.unit (s := Rows) ![p, q, l, 0, 0] ![1, 1, 1, 8, 128] hz).emb (ix5 0 0 0 ⟨(j 3).val + o, h⟩ (j 4)) := by
        funext a
        fin_cases a <;> (apply Fin.ext; simp [Rect.emb, LoadRect.idx, Rect.toLoadRect, Rect.unit, ix5]; try omega)
      rw [e1]
      exact View.canon_cons_emb _ _ _ _
    · refine Rect.not_mem_set_of_axis _ _ 3 8 256 rfl rfl rfl (Or.inl ?_)
      simp [LoadRect.idx, Rect.toLoadRect, Rect.unit]; omega
  · rw [dif_neg h]
    have e1 : (Rect.unit (s := Rows) ![p, q, l, o, 0] ![1, 1, 1, 256, 128] hr).toLoadRect.idx j
        = (Rect.unit (s := Rows) ![p, q, l, 8, 0] ![1, 1, 1, 256, 128] hb).emb
            (ix5 0 0 0 ⟨(j 3).val + o - 8, by omega⟩ (j 4)) := by
      funext a
      fin_cases a <;> (apply Fin.ext; simp [Rect.emb, LoadRect.idx, Rect.toLoadRect, Rect.unit, ix5]; try omega)
    rw [e1]
    exact View.canon_cons_emb _ _ _ _

end Cert.UpIdeal.Value

end
-- ==== Proof.UpCarry.lean ====
/- What the up projection carries from one row tile to the next: the last eight rows of each column tile it projects. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import Idealize.ShloMosaic.Lib.Pipeline.ReadBack
public import Idealize.ShloMosaic.Lib.WritesUnit
public import proofs.«01_k».proof.Proof.UpRead

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable (m : (ℓ : Loc nD τ sig) → Buf (Elt Ideal) ℓ)

/-- Row `r`, column `q` of a row tile times a column tile. -/
def proj (X : FVec Ideal S2048x4096 .bf16) (W : FVec Ideal S4096x256 .bf16) (r : Fin 2048) (q : Fin 256) : EReal :=
  ∑ k : Fin 4096, X (ix2 r k) * W (ix2 k q)

/-- The column tile of the weight that a grid point holds: of the gate's half (`s = 0`) or of the value's (`s = 1`). -/
def half (c : Dev nD) (t : Fin cfg0.N) (s : Fin 2) : FVec Ideal S4096x256 .bf16 :=
  if s.val = 0 then iblk m c 1 t else iblk m c 2 t

/-- The last eight rows of what a grid point projects. -/
def tail (c : Dev nD) (t : Fin cfg0.N) (s : Fin 2) (ρ : Fin 8) (q : Fin 256) : EReal :=
  proj (iblk m c 0 t) (half m c t s) ⟨2040 + ρ.val, by omega⟩ q

/-- A carried element, by its place in the carry: column tile, half, lane tile, row, lane. -/
abbrev carriedAt (c : Dev nD) (t : Fin cfg0.N) (y : S43x2x2x8x128.Idx) : EReal :=
  tail m c t (y 1) (y 3) ⟨(y 2).val * 128 + (y 4).val, by
    have h2 : (y 2).val < 2 := (y 2).isLt
    have h4 : (y 4).val < 128 := (y 4).isLt
    omega⟩

/-- Where a grid point keeps its four groups of eight rows. -/
theorem places : ∀ t : Fin cfg0.N, k0_off1 (grid0.coords t) = ![t.val % 43, 0, 0, 0, 0]
    ∧ k0_off2 (grid0.coords t) = ![t.val % 43, 0, 1, 0, 0]
    ∧ k0_off3 (grid0.coords t) = ![t.val % 43, 1, 0, 0, 0]
    ∧ k0_off4 (grid0.coords t) = ![t.val % 43, 1, 1, 0, 0] :=
  (by decide +kernel : ∀ t : Fin grid0.N, _)

section Groups
variable {sig' : RefSig} {κ : Kind} {sp : Space} (v : View sig' κ sp S43x2x2x8x128 .f32) (f : v.ty.Contents (Elt Ideal))

/-- Four groups of eight rows stored at column tile `j`: inside the tile each reads its own group. -/
theorem groups_own {o1 o2 o3 o4 : Fin 5 → ℕ} (j : ℕ) (e1 : o1 = ![j, 0, 0, 0, 0]) (e2 : o2 = ![j, 0, 1, 0, 0])
    (e3 : o3 = ![j, 1, 0, 0, 0]) (e4 : o4 = ![j, 1, 1, 0, 0]) (b1) (b2) (b3) (b4) (w1 w2 w3 w4) (L)
    (y : S43x2x2x8x128.Idx) (hy : (y 0).val = j) (G : EReal)
    (g1 : (y 1).val = 0 → (y 2).val = 0 → w1 (ix5 0 0 0 (y 3) (y 4)) = G)
    (g2 : (y 1).val = 0 → (y 2).val = 1 → w2 (ix5 0 0 0 (y 3) (y 4)) = G)
    (g3 : (y 1).val = 1 → (y 2).val = 0 → w3 (ix5 0 0 0 (y 3) (y 4)) = G)
    (g4 : (y 1).val = 1 → (y 2).val = 1 → w4 (ix5 0 0 0 (y 3) (y 4)) = G) :
    v.read (Elt Ideal) (v.writes (Elt Ideal) f
      (⟨Rect.unit (s := S43x2x2x8x128) o4 ![1, 1, 1, 8, 128] b4, w4⟩
        :: ⟨Rect.unit (s := S43x2x2x8x128) o3 ![1, 1, 1, 8, 128] b3, w3⟩
        :: ⟨Rect.unit (s := S43x2x2x8x128) o2 ![1, 1, 1, 8, 128] b2, w2⟩
        :: ⟨Rect.unit (s := S43x2x2x8x128) o1 ![1, 1, 1, 8, 128] b1, w1⟩ :: L)) y = G := by
  have h1 : (y 1).val < 2 := (y 1).isLt
  have h2 : (y 2).val < 2 := (y 2).isLt
  have at0 : ∀ p l : ℕ, (y 1).val = p → (y 2).val = l → ∀ a : Fin 5,
      (y a).val = (![j, p, l, 0, 0] : Fin 5 → ℕ) a
        + ((ix5 0 0 0 (y 3) (y 4) : (⟨5, ![1, 1, 1, 8, 128]⟩ : Shape).Idx) a).val := by
    intro p l hp hl a
    fin_cases a <;> simp [ix5, hy, hp, hl]
  rcases (by omega : (y 1).val = 0 ∨ (y 1).val = 1) with hp | hp <;>
    rcases (by omega : (y 2).val = 0 ∨ (y 2).val = 1) with hl | hl
  · rw [View.read_writes_cons_unit_of_not_mem v f b4 w4 _ y e4 1 (by left; simp [hp]),
      View.read_writes_cons_unit_of_not_mem v f b3 w3 _ y e3 1 (by left; simp [hp]),
      View.read_writes_cons_unit_of_not_mem v f b2 w2 _ y e2 2 (by left; simp [hl]),
      View.read_writes_cons_unit_of_mem v f b1 w1 _ y _ e1 (at0 0 0 hp hl)]
    exact g1 hp hl
  · rw [View.read_writes_cons_unit_of_not_mem v f b4 w4 _ y e4 1 (by left; simp [hp]),
      View.read_writes_cons_unit_of_not_mem v f b3 w3 _ y e3 1 (by left; simp [hp]),
      View.read_writes_cons_unit_of_mem v f b2 w2 _ y _ e2 (at0 0 1 hp hl)]
    exact g2 hp hl
  · rw [View.read_writes_cons_unit_of_not_mem v f b4 w4 _ y e4 2 (by left; simp [hl]),
      View.read_writes_cons_unit_of_mem v f b3 w3 _ y _ e3 (at0 1 0 hp hl)]
    exact g3 hp hl
  · rw [View.read_writes_cons_unit_of_mem v f b4 w4 _ y _ e4 (at0 1 1 hp hl)]
    exact g4 hp hl

/-- … and any other column tile keeps what it had. -/
theorem groups_other {o1 o2 o3 o4 : Fin 5 → ℕ} (j : ℕ) (e1 : o1 = ![j, 0, 0, 0, 0]) (e2 : o2 = ![j, 0, 1, 0, 0])
    (e3 : o3 = ![j, 1, 0, 0, 0]) (e4 : o4 = ![j, 1, 1, 0, 0]) (b1) (b2) (b3) (b4) (w1 w2 w3 w4) (L)
    (y : S43x2x2x8x128.Idx) (hy : (y 0).val ≠ j) :
    v.read (Elt Ideal) (v.writes (Elt Ideal) f
      (⟨Rect.unit (s := S43x2x2x8x128) o4 ![1, 1, 1, 8, 128] b4, w4⟩
        :: ⟨Rect.unit (s := S43x2x2x8x128) o3 ![1, 1, 1, 8, 128] b3, w3⟩
        :: ⟨Rect.unit (s := S43x2x2x8x128) o2 ![1, 1, 1, 8, 128] b2, w2⟩
        :: ⟨Rect.unit (s := S43x2x2x8x128) o1 ![1, 1, 1, 8, 128] b1, w1⟩ :: L)) y
      = v.read (Elt Ideal) (v.writes (Elt Ideal) f L) y := by
  have out : ∀ p l : ℕ, (y 0).val < (![j, p, l, 0, 0] : Fin 5 → ℕ) 0
      ∨ (![j, p, l, 0, 0] : Fin 5 → ℕ) 0 + (![1, 1, 1, 8, 128] : Fin 5 → ℕ) 0 ≤ (y 0).val := by
    intro p l; show (y 0).val < j ∨ j + 1 ≤ (y 0).val; omega
  rw [View.read_writes_cons_unit_of_not_mem v f b4 w4 _ y e4 0 (out 1 1),
    View.read_writes_cons_unit_of_not_mem v f b3 w3 _ y e3 0 (out 1 0),
    View.read_writes_cons_unit_of_not_mem v f b2 w2 _ y e2 0 (out 0 1),
    View.read_writes_cons_unit_of_not_mem v f b1 w1 _ y e1 0 (out 0 0)]
end Groups

/-- Every index lies in the rectangle of the whole carry. -/
theorem whole_mem (y : S43x2x2x8x128.Idx) : y ∈ (Rect.unit (s := S43x2x2x8x128) ![0, 0, 0, 0, 0] ![43, 2, 2, 8, 128]
    inb_S43x2x2x8x128_S43x2x2x8x128_0_0_0_0_0).set := by
  rw [Rect.mem_set_unit]
  intro a
  have := (y a).isLt
  fin_cases a <;> exact ⟨Nat.zero_le _, by simpa using this⟩

set_option maxHeartbeats 4000000 in
/-- After a grid point, the carry at that point's column tile holds the last rows it projected. -/
theorem carry_own (c : Dev nD) (t : Fin cfg0.N) (y) (hy : (y 0).val = t.val % 43) :
    (outsAt0 m c t.val t.isLt).2.2 y = carriedAt m c t y := by
  obtain ⟨e1, e2, e3, e4⟩ := places t
  by_cases h0 : t.val % 344 = 0
  · rw [outsAt0_A m c t h0]
    frame_open
    simp (disch := decide) only [↓ read_last, ↓ read_from, ↓ View.readCov_skip, ↓ View.readCov_cons_toLoadRect,
      ↓ View.readCov_fill]
    frame_out
    rw [← View.read_writes_eq_canon (View.whole cc0_scratch1) (View.whole cc0_scratch1).junk _ (fun y => ⟨_,
      List.mem_of_getLast? rfl, whole_mem y⟩)]
    refine groups_own _ _ _ e1 e2 e3 e4 _ _ _ _ _ _ _ _ _ y hy _ ?_ ?_ ?_ ?_
    all_goals
      intro hp hl
      open_payloads
      pointwise [carriedAt, tail, proj, half, hp, hl]
      blk_point []
  · rw [outsAt0_B m c t h0]
    frame_open
    simp (disch := decide) only [↓ read_last, ↓ read_from, ↓ View.readCov_skip, ↓ View.readCov_cons_toLoadRect,
      read_unread_whole]
    frame_out
    refine groups_own _ _ _ e1 e2 e3 e4 _ _ _ _ _ _ _ _ _ y hy _ ?_ ?_ ?_ ?_
    all_goals
      intro hp hl
      open_payloads
      pointwise [carriedAt, tail, proj, half, hp, hl]
      blk_point []

set_option maxHeartbeats 4000000 in
/-- … and elsewhere what the point before left. -/
theorem carry_other (c : Dev nD) (t : Fin cfg0.N) (h0 : ¬t.val % 344 = 0) (y) (hy : (y 0).val ≠ t.val % 43) :
    (outsAt0 m c t.val t.isLt).2.2 y = (outsAt0 m c (t.val - 1) (by have := t.isLt; omega)).2.2 y := by
  obtain ⟨e1, e2, e3, e4⟩ := places t
  rw [outsAt0_B m c t h0]
  frame_open
  simp (disch := decide) only [↓ read_last, ↓ read_from, ↓ View.readCov_skip, ↓ View.readCov_cons_toLoadRect,
    read_unread_whole]
  frame_out
  refine (groups_other _ _ _ e1 e2 e3 e4 _ _ _ _ _ _ _ _ _ y hy).trans ?_
  exact congrFun (read_unread_whole cc0_scratch1 _ _) y

/-- So within the next 42 points the carry at a point's column tile still holds that point's last rows. -/
theorem carried (c : Dev nD) (n : ℕ) : ∀ (hn : n < cfg0.N) (s : Fin cfg0.N), s.val ≤ n → n - s.val < 43 →
    ∀ y, (y 0).val = s.val % 43 → (outsAt0 m c n hn).2.2 y = carriedAt m c s y := by
  induction n with
  | zero =>
    intro hn s hs hd y hy
    obtain rfl : s = ⟨0, hn⟩ := Fin.ext (by simpa using hs)
    exact carry_own m c ⟨0, hn⟩ y hy
  | succ n ih =>
    intro hn s hs hd y hy
    by_cases e : s.val = n + 1
    · obtain rfl : s = ⟨n + 1, hn⟩ := Fin.ext e
      exact carry_own m c ⟨n + 1, hn⟩ y hy
    · have hN : n + 1 < 344 := hn
      refine (carry_other m c ⟨n + 1, hn⟩ (by show ¬ (n + 1) % 344 = 0; omega) y ?_).trans
        (ih (by omega) s (by omega) (by omega) y hy)
      show (y 0).val ≠ (n + 1) % 43
      omega

end Cert.UpIdeal.Value

end
-- ==== Proof.UpTile.lean ====
/- One element of the up projection's tile: a causal convolution of three taps over projected rows, in a gated unit. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import Idealize.ShloMosaic.Lib.Pipeline.ReadBack
public import proofs.«01_k».proof.Proof.UpCarry

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

/-- The projection's rows with eight rows of history before them. -/
def tap (P : Fin 8 → Fin 256 → EReal) (X : FVec Ideal S2048x4096 .bf16) (W : FVec Ideal S4096x256 .bf16) (r : Fin 2056)
    (q : Fin 256) : EReal :=
  if h : r.val < 8 then P ⟨r.val, h⟩ q else proj X W ⟨r.val - 8, by omega⟩ q

/-- The causal convolution of three taps at row `r`, over the history `P`. -/
def conv (P : Fin 8 → Fin 256 → EReal) (X : FVec Ideal S2048x4096 .bf16) (W : FVec Ideal S4096x256 .bf16)
    (T : FVec Ideal S3x256 .f32) (b : FVec Ideal S1x256 .f32) (r : Fin 2048) (q : Fin 256) : EReal :=
  b (ix2 0 q) + tap P X W ⟨r.val + 6, by omega⟩ q * T (ix2 0 q) + tap P X W ⟨r.val + 7, by omega⟩ q * T (ix2 1 q)
    + tap P X W ⟨r.val + 8, by omega⟩ q * T (ix2 2 q)

/-- SiLU of the gate times the value. -/
def glu (g v : EReal) : EReal := g * Ideal.div 1 (1 + Ideal.exp (0 - g)) * v

/-- Whether a grid point begins a sequence, as the kernel decides it. -/
abbrev starts (i : grid0.Coords) : BitVec 1 :=
  Scalar.cmpi CmpIPredicate.eq
    (Scalar.select
      (Scalar.andi
        (Scalar.xori (Scalar.cmpi CmpIPredicate.slt (Scalar.remsi (BitVec.ofNat 32 (i 0).val) 4#32) 0#32) 0#1)
        (Scalar.cmpi CmpIPredicate.ne (Scalar.remsi (BitVec.ofNat 32 (i 0).val) 4#32) 0#32))
      (Scalar.addi (Scalar.remsi (BitVec.ofNat 32 (i 0).val) 4#32) 4#32)
      (Scalar.remsi (BitVec.ofNat 32 (i 0).val) 4#32))
    0#32

/-- The kernel's test for a new sequence, over the grid. -/
theorem starts_eq : ∀ t : Fin cfg0.N, starts (grid0.coords t) = if t.val / 43 % 4 = 0 then 1#1 else 0#1 :=
  (by decide +kernel : ∀ t : Fin grid0.N, _)

/-- The history a grid point starts from: nothing at the start of a sequence, else what the carry holds. -/
def past (s : BitVec 1) (j : Fin 43) (C : FVec Ideal S43x2x2x8x128 .f32) (p : Fin 2) (ρ : Fin 8) (q : Fin 256) : EReal :=
  Scalar.select s 0 (C (ix5 j p ⟨q.val / 128, by omega⟩ ρ ⟨q.val % 128, by omega⟩))

/-- What the carry holds at a place, as a history. -/
theorem past_at {s : BitVec 1} {j : Fin 43} {C : FVec Ideal S43x2x2x8x128 .f32} {p : Fin 2} {ρ : Fin 8} {q : Fin 256}
    {i0 : Fin 43} {i1 i2 : Fin 2} {i3 : Fin 8} {i4 : Fin 128} (e0 : i0.val = j.val) (e1 : i1.val = p.val)
    (e2 : i2.val = q.val / 128) (e3 : i3.val = ρ.val) (e4 : i4.val = q.val % 128) :
    Scalar.select s 0 (C (ix5 i0 i1 i2 i3 i4)) = past s j C p ρ q := by
  obtain rfl : i0 = j := Fin.ext e0
  obtain rfl : i1 = p := Fin.ext e1
  obtain rfl : i3 = ρ := Fin.ext e3
  have x2 : i2 = ⟨q.val / 128, by omega⟩ := Fin.ext e2
  have x4 : i4 = ⟨q.val % 128, by omega⟩ := Fin.ext e4
  rw [x2, x4]
  rfl

/-- A row past the history. -/
theorem tap_inner {P : Fin 8 → Fin 256 → EReal} {X : FVec Ideal S2048x4096 .bf16} {W : FVec Ideal S4096x256 .bf16}
    {r : Fin 2056} {q : Fin 256} {a : Fin 2048} {b : Fin 256} (ha : a.val + 8 = r.val) (hb : b.val = q.val) :
    ∑ k : Fin 4096, X (ix2 a k) * W (ix2 k b) = tap P X W r q := by
  obtain rfl : b = q := Fin.ext hb
  have e : (⟨r.val - 8, by omega⟩ : Fin 2048) = a := Fin.ext (by show r.val - 8 = a.val; omega)
  unfold tap proj
  rw [dif_neg (by omega), e]

/-- A row past the history, read from either of two pieces. -/
theorem tap_later {P : Fin 8 → Fin 256 → EReal} {X : FVec Ideal S2048x4096 .bf16} {W : FVec Ideal S4096x256 .bf16}
    {r : Fin 2056} {q : Fin 256} {n : ℕ} {a : n < 8 → Fin 2048} {a' : ¬n < 8 → Fin 2048} {b : Fin 256}
    (ha : ∀ h, (a h).val + 8 = r.val) (ha' : ∀ h, (a' h).val + 8 = r.val) (hb : b.val = q.val) :
    (if h : n < 8 then ∑ k : Fin 4096, X (ix2 (a h) k) * W (ix2 k b)
      else ∑ k : Fin 4096, X (ix2 (a' h) k) * W (ix2 k b)) = tap P X W r q := by
  split
  · exact tap_inner (ha _) hb
  · exact tap_inner (ha' _) hb

/-- A row of the first rows: history or fresh. -/
theorem tap_first {P : Fin 8 → Fin 256 → EReal} {X : FVec Ideal S2048x4096 .bf16} {W : FVec Ideal S4096x256 .bf16}
    {r : Fin 2056} {q : Fin 256} {n : ℕ} {A : n < 8 → EReal} {a' : ¬n < 8 → Fin 2048} {b : Fin 256} (hn : n = r.val)
    (ha : ∀ h, A h = P ⟨r.val, by omega⟩ q) (ha' : ∀ h, (a' h).val + 8 = r.val) (hb : b.val = q.val) :
    (if h : n < 8 then A h else ∑ k : Fin 4096, X (ix2 (a' h) k) * W (ix2 k b)) = tap P X W r q := by
  split
  · rename_i h
    rw [ha h]; unfold tap; rw [dif_pos (by omega)]
  · exact tap_inner (ha' _) hb

/-- The convolution at a row of a later chunk, each tap read from one of two pieces. -/
theorem conv_later {P : Fin 8 → Fin 256 → EReal} {X : FVec Ideal S2048x4096 .bf16} {W : FVec Ideal S4096x256 .bf16}
    {T : FVec Ideal S3x256 .f32} {b : FVec Ideal S1x256 .f32} {r : Fin 2048} {q w : Fin 256} {n : ℕ}
    {p6 : n + 6 < 8 → Fin 2048} {p6' : ¬n + 6 < 8 → Fin 2048} {p7 : n + 7 < 8 → Fin 2048} {p7' : ¬n + 7 < 8 → Fin 2048}
    (a6 : ∀ h, (p6 h).val + 8 = r.val + 6) (a6' : ∀ h, (p6' h).val + 8 = r.val + 6)
    (a7 : ∀ h, (p7 h).val + 8 = r.val + 7) (a7' : ∀ h, (p7' h).val + 8 = r.val + 7)
    {a8 : Fin 2048} (h8 : a8.val = r.val) (hw : w.val = q.val) :
    b (ix2 0 w) + (if h : n + 6 < 8 then ∑ k : Fin 4096, X (ix2 (p6 h) k) * W (ix2 k w) else ∑ k : Fin 4096, X (ix2 (p6' h) k) * W (ix2 k w)) * T (ix2 0 w)
        + (if h : n + 7 < 8 then ∑ k : Fin 4096, X (ix2 (p7 h) k) * W (ix2 k w) else ∑ k : Fin 4096, X (ix2 (p7' h) k) * W (ix2 k w)) * T (ix2 1 w)
        + (∑ k : Fin 4096, X (ix2 a8 k) * W (ix2 k w)) * T (ix2 2 w) = conv P X W T b r q := by
  obtain rfl : w = q := Fin.ext hw
  unfold conv
  rw [tap_later (P := P) (X := X) (W := W) (r := ⟨r.val + 6, by omega⟩) (q := w) a6 a6' rfl, tap_later (P := P) (X := X) (W := W) (r := ⟨r.val + 7, by omega⟩) (q := w) a7 a7' rfl,
    tap_inner (P := P) (X := X) (W := W) (r := ⟨r.val + 8, by omega⟩) (q := w) (by show a8.val + 8 = r.val + 8; omega) rfl]

/-- The convolution at a row of the first chunk, whose first taps may lie in the history. -/
theorem conv_first {P : Fin 8 → Fin 256 → EReal} {X : FVec Ideal S2048x4096 .bf16} {W : FVec Ideal S4096x256 .bf16}
    {T : FVec Ideal S3x256 .f32} {b : FVec Ideal S1x256 .f32} {r : Fin 2048} {q w : Fin 256} {n : ℕ}
    {E6 : n + 6 < 8 → EReal} {p6' : ¬n + 6 < 8 → Fin 2048} {E7 : n + 7 < 8 → EReal} {p7' : ¬n + 7 < 8 → Fin 2048}
    (hn : n = r.val) (e6 : ∀ h, E6 h = P ⟨r.val + 6, by omega⟩ q) (a6' : ∀ h, (p6' h).val + 8 = r.val + 6)
    (e7 : ∀ h, E7 h = P ⟨r.val + 7, by omega⟩ q) (a7' : ∀ h, (p7' h).val + 8 = r.val + 7)
    {a8 : Fin 2048} (h8 : a8.val = r.val) (hw : w.val = q.val) :
    b (ix2 0 w) + (if h : n + 6 < 8 then E6 h else ∑ k : Fin 4096, X (ix2 (p6' h) k) * W (ix2 k w)) * T (ix2 0 w)
        + (if h : n + 7 < 8 then E7 h else ∑ k : Fin 4096, X (ix2 (p7' h) k) * W (ix2 k w)) * T (ix2 1 w)
        + (∑ k : Fin 4096, X (ix2 a8 k) * W (ix2 k w)) * T (ix2 2 w) = conv P X W T b r q := by
  obtain rfl : w = q := Fin.ext hw
  unfold conv
  rw [tap_first (P := P) (X := X) (W := W) (r := ⟨r.val + 6, by omega⟩) (q := w) (by show n + 6 = r.val + 6; omega) e6 a6' rfl, tap_first (P := P) (X := X) (W := W) (r := ⟨r.val + 7, by omega⟩) (q := w) (by show n + 7 = r.val + 7; omega) e7 a7' rfl,
    tap_inner (P := P) (X := X) (W := W) (r := ⟨r.val + 8, by omega⟩) (q := w) (by show a8.val + 8 = r.val + 8; omega) rfl]

/-- An index of a stored piece, by row and lane. -/
theorem tile_ix (x : S256x128.Idx) : ∃ (a : Fin 256) (b : Fin 128), x = ix2 a b :=
  ⟨x 0, x 1, funext fun i => by fin_cases i <;> rfl⟩

end Cert.UpIdeal.Value

end
-- ==== Proof.UpRef.lean ====
/- The up projection's reference, element by element, and the kernel's blocks as parts of the argument arrays. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import proofs.«01_k».proof.Proof.UpTile

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable (m : (ℓ : Loc nD τ sig) → Buf (Elt Ideal) ℓ)

/-- The arguments: the normalised rows, the up weight, the taps, the bias. -/
abbrev rows (c : Dev nD) : FVec Ideal S16384x4096 .bf16 := m ((c : Thread nD τ).loc main_arg0)
abbrev weights (c : Dev nD) : FVec Ideal S4096x22016 .bf16 := m ((c : Thread nD τ).loc main_arg1)
abbrev taps (c : Dev nD) : FVec Ideal S3x22016 .f32 := m ((c : Thread nD τ).loc main_arg2)
abbrev bias (c : Dev nD) : FVec Ideal S22016 .f32 := m ((c : Thread nD τ).loc main_arg3)

/-- The reference's padded projection and its convolution. -/
abbrev padded (c : Dev nD) : FVec Ideal Cert.UpRefIdeal.S2x8194x22016 .f32 :=
  Cert.UpRefIdeal.Read.val_main_v4 (F := Ideal) (rows m c) (weights m c)
abbrev convolved (c : Dev nD) : FVec Ideal Cert.UpRefIdeal.S2x8192x22016 .f32 :=
  Cert.UpRefIdeal.Read.val_main_v27 (F := Ideal) (rows m c) (weights m c) (taps m c) (bias m c)

/-- Row `R`, column `Q` of the whole up projection. -/
def prod (c : Dev nD) (R : Fin 16384) (Q : Fin 22016) : EReal :=
  ∑ k : Fin 4096, rows m c (ix2 R k)
    * weights m c (ix2 k Q)

/-- Which block each window holds at a grid point `t = 43 i + j`: row tile `i`, column tile `j` of either half. -/
theorem placement : ∀ t : Fin cfg0.N, win0_0.index t = ![t.val / 43, 0]
    ∧ win0_1.index t = ![0, t.val % 43] ∧ win0_2.index t = ![0, 43 + t.val % 43]
    ∧ win0_3.index t = ![0, t.val % 43] ∧ win0_4.index t = ![0, 43 + t.val % 43]
    ∧ win0_5.index t = ![0, t.val % 43] ∧ win0_6.index t = ![0, 43 + t.val % 43]
    ∧ win0_7.index t = ![t.val, 0] ∧ win0_8.index t = ![t.val / 43, t.val % 43]
    ∧ win0_9.index t = ![t.val, 0] :=
  (by decide +kernel : ∀ t : Fin grid0.N, _)

/-- The projection's column of half `s` at column `q` of a grid point's tile. -/
def col (t : Fin cfg0.N) (s : Fin 2) (q : Fin 256) : Fin 22016 := ⟨s.val * 11008 + (t.val % 43 * 256 + q.val), by omega⟩

/-- A grid point projects its own rows and columns of the whole. -/
theorem proj_eq (c : Dev nD) (t : Fin cfg0.N) (s : Fin 2) (r : Fin 2048) (q : Fin 256) (R : Fin 16384)
    (hR : R.val = t.val / 43 * 2048 + r.val) :
    proj (iblk m c 0 t) (half m c t s) r q = prod m c R (col t s q) := by
  have hs : s.val = 0 ∨ s.val = 1 := by omega
  unfold proj prod half col
  rcases hs with hs | hs
  · rw [if_pos hs]; blk_point [iblk, V, placement t, hR, hs]
  · rw [if_neg (by omega)]; blk_point [iblk, V, placement t, hR, hs]

/-- The reference's padded projection: two rows of zeros, then the rows of the sequence. -/
theorem ref_pad (c : Dev nD) (b : Fin 2) (s' : Fin 8194) (Q : Fin 22016) :
    padded m c (ix3 b s' Q)
      = if h : s'.val < 2 then (0 : EReal) else prod m c ⟨b.val * 8192 + (s'.val - 2), by omega⟩ Q := by
  pointwise [prod, padded, rows, weights, Cert.UpRefIdeal.Read.val_main_v4, Cert.UpRefIdeal.Read.val_main_v3, Cert.UpRefIdeal.Read.val_main_v2, Cert.UpRefIdeal.Read.val_main_v1, Cert.UpRefIdeal.Read.val_main_v0, Cert.UpRefIdeal.Read.val_main_call0_v0, Cert.UpRefIdeal.Read.val_main_c]
  have z : (FloatOps.sitofp FTy.f32 (0#32) : Ideal FTy.f32) = (0 : EReal) := by simp [FloatOps.sitofp]
  split_ifs <;> first | rfl | omega | exact z

/-- The history a grid point starts from: nothing at the start of a sequence, else the last rows of the row tile before. -/
def hist (c : Dev nD) (t : Fin cfg0.N) (s : Fin 2) (ρ : Fin 8) (q : Fin 256) : EReal :=
  if t.val / 43 % 4 = 0 then 0 else tail m c ⟨t.val - 43, by have := t.isLt; omega⟩ s ρ q

/-- A tap of the kernel's convolution is a row of the reference's padded projection. -/
theorem tap_eq (c : Dev nD) (t : Fin cfg0.N) (s : Fin 2) (r : Fin 2056) (q : Fin 256) (hr : 6 ≤ r.val)
    (b : Fin 2) (hb : b.val = t.val / 43 / 4) (s' : Fin 8194) (hs' : s'.val + 6 = t.val / 43 % 4 * 2048 + r.val) :
    tap (hist m c t s) (iblk m c 0 t) (half m c t s) r q
      = padded m c
          (ix3 b s' (col t s q)) := by
  have hN : t.val < 344 := t.isLt
  rw [ref_pad]
  unfold tap hist
  by_cases h : r.val < 8
  · rw [dif_pos h]
    by_cases h4 : t.val / 43 % 4 = 0
    · rw [if_pos h4, dif_pos (by omega)]
    · rw [if_neg h4, dif_neg (by omega)]
      unfold tail
      rw [proj_eq m c _ s _ q ⟨b.val * 8192 + (s'.val - 2), by omega⟩ (by show _ = (t.val - 43) / 43 * 2048 + (2040 + r.val); dsimp only; omega)]
      refine congrArg (prod m c _) (Fin.ext ?_)
      show s.val * 11008 + ((t.val - 43) % 43 * 256 + q.val) = s.val * 11008 + (t.val % 43 * 256 + q.val)
      omega
  · rw [dif_neg h, dif_neg (by omega)]
    exact proj_eq m c t s _ q ⟨b.val * 8192 + (s'.val - 2), by omega⟩ (by dsimp only; omega)

/-- The reference's convolution, written plainly. -/
theorem ref_conv (c : Dev nD) (b : Fin 2) (s : Fin 8192) (Q : Fin 22016) :
    convolved m c (ix3 b s Q)
      = bias m c (ix1 Q)
        + padded m c
            (ix3 b ⟨s.val, by omega⟩ Q) * taps m c (ix2 0 Q)
        + padded m c
            (ix3 b ⟨s.val + 1, by omega⟩ Q) * taps m c (ix2 1 Q)
        + padded m c
            (ix3 b ⟨s.val + 2, by omega⟩ Q) * taps m c (ix2 2 Q) := by
  pointwise [convolved, padded, Cert.UpRefIdeal.Read.val_main_v5, Cert.UpRefIdeal.Read.val_main_v6, Cert.UpRefIdeal.Read.val_main_v7, Cert.UpRefIdeal.Read.val_main_v8, Cert.UpRefIdeal.Read.val_main_v9, Cert.UpRefIdeal.Read.val_main_v10, Cert.UpRefIdeal.Read.val_main_v11, Cert.UpRefIdeal.Read.val_main_v12, Cert.UpRefIdeal.Read.val_main_v13, Cert.UpRefIdeal.Read.val_main_v14, Cert.UpRefIdeal.Read.val_main_v15, Cert.UpRefIdeal.Read.val_main_v16, Cert.UpRefIdeal.Read.val_main_v17, Cert.UpRefIdeal.Read.val_main_v18, Cert.UpRefIdeal.Read.val_main_v19, Cert.UpRefIdeal.Read.val_main_v20, Cert.UpRefIdeal.Read.val_main_v21, Cert.UpRefIdeal.Read.val_main_v22, Cert.UpRefIdeal.Read.val_main_v23, Cert.UpRefIdeal.Read.val_main_v24, Cert.UpRefIdeal.Read.val_main_v25, Cert.UpRefIdeal.Read.val_main_v26, Cert.UpRefIdeal.Read.val_main_v27]
  simp only [Nat.add_comm]

/-- The kernel's convolution is the reference's. -/
theorem conv_eq (c : Dev nD) (t : Fin cfg0.N) (s : Fin 2) (T : FVec Ideal S3x256 .f32) (b : FVec Ideal S1x256 .f32)
    (hT : ∀ (d : Fin 3) (q : Fin 256), T (ix2 d q)
      = taps m c (ix2 d (col t s q)))
    (hb : ∀ q : Fin 256, b (ix2 0 q) = bias m c (ix1 (col t s q)))
    (r : Fin 2048) (q : Fin 256) (B : Fin 2) (hB : B.val = t.val / 43 / 4) (S : Fin 8192)
    (hS : S.val = t.val / 43 % 4 * 2048 + r.val) :
    conv (hist m c t s) (iblk m c 0 t) (half m c t s) T b r q
      = convolved m c (ix3 B S (col t s q)) := by
  rw [ref_conv]
  unfold conv
  rw [hT, hT, hT, hb,
    tap_eq m c t s ⟨r.val + 6, by omega⟩ q (by dsimp only; omega) B hB ⟨S.val, by omega⟩ (by dsimp only; omega),
    tap_eq m c t s ⟨r.val + 7, by omega⟩ q (by dsimp only; omega) B hB ⟨S.val + 1, by omega⟩ (by dsimp only; omega),
    tap_eq m c t s ⟨r.val + 8, by omega⟩ q (by dsimp only; omega) B hB ⟨S.val + 2, by omega⟩ (by dsimp only; omega)]

/-- The taps of either half, as columns of the tap array. -/
theorem taps_gate (c : Dev nD) (t : Fin cfg0.N) (d : Fin 3) (q : Fin 256) : iblk m c 3 t (ix2 d q)
    = taps m c (ix2 d (col t 0 q)) := by
  unfold col
  blk_point [iblk, V, placement t]

theorem taps_value (c : Dev nD) (t : Fin cfg0.N) (d : Fin 3) (q : Fin 256) : iblk m c 4 t (ix2 d q)
    = taps m c (ix2 d (col t 1 q)) := by
  unfold col
  blk_point [iblk, V, placement t]

/-- The bias of either half. -/
theorem bias_gate (c : Dev nD) (t : Fin cfg0.N) (q : Fin 256) : iblk m c 5 t (ix2 0 q)
    = bias m c (ix1 (col t 0 q)) := by
  have e : col t 0 q = ⟨t.val % 43 * 256 + q.val, by have := t.isLt; omega⟩ := Fin.ext (show 0 * 11008 + (t.val % 43 * 256 + q.val) = t.val % 43 * 256 + q.val by omega)
  rw [e]
  blk_simp [iblk]
  entry_read
  pointwise [bias]
  blk_ext [placement t]

theorem bias_value (c : Dev nD) (t : Fin cfg0.N) (q : Fin 256) : iblk m c 6 t (ix2 0 q)
    = bias m c (ix1 (col t 1 q)) := by
  unfold col
  blk_simp [iblk]
  entry_read
  pointwise [bias]
  blk_ext [placement t]

end Cert.UpIdeal.Value

end
-- ==== Proof.UpBodyA.lean ====
/- What the up projection stores at its first grid point. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import Idealize.ShloMosaic.Lib.Pipeline.ReadBack
public import proofs.«01_k».proof.Proof.UpTile

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

set_option maxHeartbeats 40000000 in
/-- What the first grid point stores. -/
theorem bodyA (c : Dev nD) (t : Fin cfg0.N) (a2) (h2) (a3) (h3) (a4) (h4) (a5) (h5) (a6) (h6) (a7) (h7) (a8) (h8) (a9) (h9) (a10) (h10) (a11) (h11) (a12) (h12) (a13) (h13) (hc)
    (X : FVec Ideal S2048x4096 .bf16) (Wg Wv : FVec Ideal S4096x256 .bf16) (Tg Tv : FVec Ideal S3x256 .f32)
    (bg bv : FVec Ideal S1x256 .f32) (Z) (r : Fin 2048) (q : Fin 256) :
    out0_A_8 (F := Ideal) c (grid0.coords t) a2 h2 a3 h3 a4 h4 a5 h5 a6 h6 a7 h7 a8 h8 a9 h9 a10 h10 a11 h11 a12 h12 a13 h13 hc X Wg Wv Tg Tv bg bv Z (ix2 r q)
      = glu (conv (fun _ _ => 0) X Wg Tg bg r q) (conv (fun _ _ => 0) X Wv Tv bv r q) := by
  frame_open
  simp (disch := decide) only [↓ read_last, ↓ read_from, ↓ View.readCov_skip, ↓ View.readCov_cons_toLoadRect,
    ↓ View.readCov_fill]
  frame_out
  canon_tiles x h
  all_goals
    obtain ⟨a, b, rfl⟩ := tile_ix x
    have i0 : ((ix2 r q : S2048x256.Idx) 0).val = r.val := rfl
    have i1 : ((ix2 r q : S2048x256.Idx) 1).val = q.val := rfl
    have j0 : ((ix2 a b : S256x128.Idx) 0).val = a.val := rfl
    have j1 : ((ix2 a b : S256x128.Idx) 1).val = b.val := rfl
    rw [i0, j0] at h0
    rw [i1, j1] at h1
    open_payloads
    pointwise []
  case' piece14 | piece15 =>
    refine congrArg₂ glu (conv_first ?_ ?_ ?_ ?_ ?_ ?_ ?_) (conv_first ?_ ?_ ?_ ?_ ?_ ?_ ?_)
    all_goals intros
    all_goals first
      | omega
      | (dsimp only; omega)
      | rfl
  all_goals
    refine congrArg₂ glu (conv_later ?_ ?_ ?_ ?_ ?_ ?_) (conv_later ?_ ?_ ?_ ?_ ?_ ?_) <;> intros <;> dsimp only <;> omega

end Cert.UpIdeal.Value

end
-- ==== Proof.UpBodyB.lean ====
/- What the up projection stores at a grid point past the first. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import Idealize.ShloMosaic.Lib.Pipeline.ReadBack
public import proofs.«01_k».proof.Proof.UpTile

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

set_option maxHeartbeats 40000000 in
/-- What a grid point past the first stores, row by row and column by column. -/
theorem bodyB (c : Dev nD) (t : Fin cfg0.N) (a2) (h2) (a3) (h3) (a4) (h4) (a5) (h5) (a6) (h6) (a7) (h7) (a8) (h8) (a9) (h9) (a10) (h10) (a11) (h11) (a12) (h12) (a13) (h13) (hc)
    (X : FVec Ideal S2048x4096 .bf16) (Wg Wv : FVec Ideal S4096x256 .bf16) (Tg Tv : FVec Ideal S3x256 .f32)
    (bg bv : FVec Ideal S1x256 .f32) (Z) (C : FVec Ideal S43x2x2x8x128 .f32) (r : Fin 2048) (q : Fin 256) :
    out0_B_8 (F := Ideal) c (grid0.coords t) a2 h2 a3 h3 a4 h4 a5 h5 a6 h6 a7 h7 a8 h8 a9 h9 a10 h10 a11 h11 a12 h12 a13 h13 hc X Wg Wv Tg Tv bg bv Z C (ix2 r q)
      = glu (conv (past (starts (grid0.coords t)) ⟨t.val % 43, by omega⟩ C 0) X Wg Tg bg r q) (conv (past (starts (grid0.coords t)) ⟨t.val % 43, by omega⟩ C 1) X Wv Tv bv r q) := by
  obtain ⟨e1, e2, e3, e4⟩ := places t
  frame_open
  simp (disch := decide) only [↓ read_last, ↓ read_from, ↓ View.readCov_skip, ↓ View.readCov_cons_toLoadRect,
    read_unread_whole]
  frame_out
  canon_tiles x h
  all_goals
    obtain ⟨a, b, rfl⟩ := tile_ix x
    have i0 : ((ix2 r q : S2048x256.Idx) 0).val = r.val := rfl
    have i1 : ((ix2 r q : S2048x256.Idx) 1).val = q.val := rfl
    have j0 : ((ix2 a b : S256x128.Idx) 0).val = a.val := rfl
    have j1 : ((ix2 a b : S256x128.Idx) 1).val = b.val := rfl
    rw [i0, j0] at h0
    rw [i1, j1] at h1
    open_payloads
    pointwise []
  case' piece14 | piece15 =>
    refine congrArg₂ glu (conv_first ?_ ?_ ?_ ?_ ?_ ?_ ?_) (conv_first ?_ ?_ ?_ ?_ ?_ ?_ ?_)
    all_goals intros
    all_goals first
      | omega
      | (dsimp only; omega)
      | (refine past_at ?_ ?_ ?_ ?_ ?_ <;> simp [e1, e2, e3, e4] <;> omega)
  all_goals
    refine congrArg₂ glu (conv_later ?_ ?_ ?_ ?_ ?_ ?_) (conv_later ?_ ?_ ?_ ?_ ?_ ?_) <;> intros <;> dsimp only <;> omega

end Cert.UpIdeal.Value

end
-- ==== Proof.UpValue.lean ====
/- The up projection: the tiles the kernel stores are tiles of the gated, convolved projection, and its second result is
   the down weight, cast. -/
module

public import proofs.«01_k».proof.Proof.Gen.UpIdeal.Frame
public import proofs.«01_k».proof.Proof.Gen.UpRefIdeal.Run
public import proofs.«01_k».proof.Proof.Gen.UpRefIdeal.Read
public import Idealize.ShloMosaic.Lib.Pipeline.ValueKit
public import Idealize.ShloMosaic.Lib.Claim
public import proofs.«01_k».proof.Proof.UpRef
public import proofs.«01_k».proof.Proof.UpBodyA
public import proofs.«01_k».proof.Proof.UpBodyB

@[expose] public section

set_option maxRecDepth 16384

noncomputable section

open Idealize.ShloMosaic Idealize.ShloMosaic.TcCoe Idealize.SL.Sem
open Idealize.ShloMosaic.Pipeline (Dat)

namespace Cert.UpIdeal.Value

open Cert.UpIdeal Cert.UpIdeal.Gen

variable (m : (ℓ : Loc nD τ sig) → Buf (Elt Ideal) ℓ)

/-- The reference's gated projection, over the kernel's argument arrays. -/
abbrev target (c : Dev nD) : FVec Ideal Cert.UpRefIdeal.S16384x11008 .bf16 :=
  Cert.UpRefIdeal.Read.val_main_v33 (F := Ideal) (rows m c) (weights m c) (taps m c) (bias m c)

/-- The reference's cast of the down weight. -/
abbrev weight (c : Dev nD) : FVec Ideal Cert.UpRefIdeal.S11008x4096 .bf16 :=
  Cert.UpRefIdeal.Read.val_main_v34 (F := Ideal) (m ((c : Thread nD τ).loc main_arg4))

/-- What the carry holds at a grid point's column tile is the history of the convolution. -/
theorem past_eq (c : Dev nD) (t : Fin cfg0.N) (h0 : ¬t.val % 344 = 0) (s : Fin 2) :
    past (starts (grid0.coords t)) ⟨t.val % 43, by omega⟩
      (outsAt0 m c (t.val - 1) (Nat.lt_of_le_of_lt (Nat.sub_le _ _) t.isLt)).2.2 s = hist m c t s := by
  have ht : t.val < 344 := t.isLt
  funext ρ q
  unfold past hist
  rw [starts_eq t]
  by_cases h : t.val / 43 % 4 = 0
  · rw [if_pos h, if_pos h]; rfl
  · rw [if_neg h, if_neg h]
    refine Eq.trans (b := (outsAt0 m c (t.val - 1) (Nat.lt_of_le_of_lt (Nat.sub_le _ _) t.isLt)).2.2
      (ix5 ⟨t.val % 43, by omega⟩ s ⟨q.val / 128, by omega⟩ ρ ⟨q.val % 128, by omega⟩)) rfl ?_
    refine (carried m c (t.val - 1) _ ⟨t.val - 43, by omega⟩ (by show t.val - 43 ≤ t.val - 1; omega)
      (by show t.val - 1 - (t.val - 43) < 43; omega) _
      (show t.val % 43 = (t.val - 43) % 43 by omega)).trans ?_
    exact congrArg (tail m c _ s ρ) (Fin.ext (show q.val / 128 * 128 + q.val % 128 = q.val by omega))

/-- What a grid point leaves in its tile, over the history. -/
theorem tile_conv (c : Dev nD) (t : Fin cfg0.N) (r : Fin 2048) (q : Fin 256) :
    (outsAt0 m c t.val t.isLt).1 (ix2 r q)
      = glu (conv (hist m c t 0) (iblk m c 0 t) (half m c t 0) (iblk m c 3 t) (iblk m c 5 t) r q)
          (conv (hist m c t 1) (iblk m c 0 t) (half m c t 1) (iblk m c 4 t) (iblk m c 6 t) r q) := by
  have ht : t.val < 344 := t.isLt
  have g : half m c t 0 = iblk m c 1 t := if_pos rfl
  have v : half m c t 1 = iblk m c 2 t := if_neg (by decide)
  rw [g, v]
  by_cases h0 : t.val % 344 = 0
  · have n (s : Fin 2) : hist m c t s = fun _ _ => 0 := by
      funext ρ q
      exact if_pos (by omega)
    rw [outsAt0_A m c t h0, n, n]
    exact bodyA c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) ((hcond0_0 t).mpr h0)
      (iblk m c 0 t) (iblk m c 1 t) (iblk m c 2 t) (iblk m c 3 t) (iblk m c 4 t) (iblk m c 5 t) (iblk m c 6 t) (iblk m c 7 t) r q
  · rw [← past_eq m c t h0, ← past_eq m c t h0, outsAt0_B m c t h0]
    exact bodyB c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) (fun h => h0 ((hcond0_0 t).mp h))
      (iblk m c 0 t) (iblk m c 1 t) (iblk m c 2 t) (iblk m c 3 t) (iblk m c 4 t) (iblk m c 5 t) (iblk m c 6 t) (iblk m c 7 t) _ r q

/-- The reference's result at a place is the gating of its convolution's two halves. -/
theorem target_at (c : Dev nD) (R : Fin 16384) (Q : Fin 11008) :
    target m c (ix2 R Q)
      = glu (convolved m c (ix3 ⟨R.val / 8192, by omega⟩ ⟨R.val % 8192, by omega⟩ ⟨Q.val, by omega⟩))
          (convolved m c (ix3 ⟨R.val / 8192, by omega⟩ ⟨R.val % 8192, by omega⟩ ⟨11008 + Q.val, by omega⟩)) := by
  unfold convolved
  pointwise [target, glu, Cert.UpRefIdeal.Read.val_main_v33, Cert.UpRefIdeal.Read.val_main_v32,
    Cert.UpRefIdeal.Read.val_main_v31, Cert.UpRefIdeal.Read.val_main_v30, Cert.UpRefIdeal.Read.val_main_v29,
    Cert.UpRefIdeal.Read.val_main_v28, Cert.UpRefIdeal.Read.val_main_call1_v0, Cert.UpRefIdeal.Read.val_main_call1_v1,
    Cert.UpRefIdeal.Read.val_main_call1_v2, Cert.UpRefIdeal.Read.val_main_call1_v3,
    Cert.UpRefIdeal.Read.val_main_call1_v4, Cert.UpRefIdeal.Read.val_main_call1_v5,
    Cert.UpRefIdeal.Read.val_main_call1_cst, Cert.UpRefIdeal.Read.val_main_call1_cst_0]
  simp only [zero_sub]

/-- What a grid point leaves in its tile of the gated projection. -/
theorem tile (c : Dev nD) (t : Fin cfg0.N) (y) :
    (outsAt0 m c t.val t.isLt).1 y = target m c (((cfg0.win 8).blk t).view.emb y) := by
  have ht : t.val < 344 := t.isLt
  have hj : t.val % 43 < 43 := Nat.mod_lt _ (by decide)
  obtain ⟨r, q, rfl⟩ : ∃ (r : Fin 2048) (q : Fin 256), y = ix2 r q := ⟨y 0, y 1, by funext a; fin_cases a <;> rfl⟩
  have e : ((cfg0.win 8).blk t).view.emb (ix2 r q)
      = (ix2 ⟨t.val / 43 * 2048 + r.val, by omega⟩ ⟨t.val % 43 * 256 + q.val, by omega⟩ : S16384x11008.Idx) := by
    blk_ext [placement t]
  rw [tile_conv, e]
  refine Eq.trans ?_ (target_at m c _ _).symm
  refine congrArg₂ glu ?_ ?_
  · refine (conv_eq m c t 0 _ _ (taps_gate m c t) (bias_gate m c t) r q ⟨t.val / 43 / 4, by omega⟩ rfl
      ⟨t.val / 43 % 4 * 2048 + r.val, by omega⟩ rfl).trans (congrArg (convolved m c) ?_)
    unfold col
    blk_ext []
  · refine (conv_eq m c t 1 _ _ (taps_value m c t) (bias_value m c t) r q ⟨t.val / 43 / 4, by omega⟩ rfl
      ⟨t.val / 43 % 4 * 2048 + r.val, by omega⟩ rfl).trans (congrArg (convolved m c) ?_)
    unfold col
    blk_ext []

/-- What a grid point leaves in its tile of the cast weight. -/
theorem weight_tile (c : Dev nD) (t : Fin cfg0.N) (y) :
    (outsAt0 m c t.val t.isLt).2.1 y = weight m c (((cfg0.win 9).blk t).view.emb y) := by
  by_cases h0 : t.val % 344 = 0
  · rw [outsAt0_A m c t h0]
    frame_out
    open_payloads
    pointwise [weight, Cert.UpRefIdeal.Read.val_main_v34]
    blk_point [iblk, V, placement t]
  · rw [outsAt0_B m c t h0]
    frame_out
    open_payloads
    pointwise [weight, Cert.UpRefIdeal.Read.val_main_v34]
    blk_point [iblk, V, placement t]

/-- The whole gated projection. -/
theorem result (c : Dev nD) : (dats m 0 c).arrAt 8 (cfgs 0).N = target m c := by
  refine (dats m 0 c).arrAt_eq_of_covers 8 _ (by decide +kernel) fun t hf y => ?_
  blk_simp; rw [after0_8]
  exact tile m c t y

/-- The whole cast weight. -/
theorem weight_result (c : Dev nD) : (dats m 0 c).arrAt 9 (cfgs 0).N = weight m c := by
  refine (dats m 0 c).arrAt_eq_of_covers 9 _ (by decide +kernel) fun t hf y => ?_
  blk_simp; rw [after0_9]
  exact weight_tile m c t y

end Cert.UpIdeal.Value

end
-- ==== Proof.CrossRow.lean ====
/- Cross-attention of one row over a memory of 256 places, in four heads of 128 lanes. -/
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.CrossIdeal.Value

/-- A row over its root mean square (`z` its length), times a gain. -/
def normed {n : ℕ} (z : EReal) (f g : Fin n → EReal) (d : Fin n) : EReal :=
  f d * Ideal.rsqrt (Ideal.div (∑ e : Fin n, f e * f e) z + Ideal.ofBits .f32 0x358637BD#32) * g d

/-- Lane `d` of head `h` among the 512 columns. -/
def lane (h : Fin 4) (d : Fin 128) : Fin 512 := ⟨h.val * 128 + d.val, by omega⟩

/-- The scaled product of a normalised query with a key. -/
def score (q g k : Fin 128 → EReal) : EReal :=
  (∑ d : Fin 128, normed (Ideal.ofBits .f32 0x43000000#32) q g d * k d) * Ideal.ofBits .f32 0x3DB504F3#32

/-- The largest of the scores. -/
def top (s : Fin 256 → EReal) : EReal := Finset.fold max (Ideal.ofBits .f32 0xFF800000#32) s Finset.univ

/-- The weight of a place: its exponential over their sum. -/
def soft (s : Fin 256 → EReal) (j : Fin 256) : EReal :=
  Ideal.div (Ideal.exp (s j - top s)) (∑ i : Fin 256, Ideal.exp (s i - top s))

/-- The values weighted. -/
def attend (s v : Fin 256 → EReal) : EReal := ∑ j : Fin 256, soft s j * v j

/-- The query of a row: normalised, times a column of the weight. -/
def query (x g : Fin 4096 → EReal) (w : Fin 4096 → EReal) : EReal :=
  ∑ k : Fin 4096, normed (Ideal.ofBits .f32 0x45800000#32) x g k * w k

/-- Lane `d` of head `h` of what the row gathers from the memory. -/
def gathered (q : Fin 512 → EReal) (g : Fin 128 → EReal) (K V : Fin 256 → Fin 512 → EReal) (h : Fin 4) (d : Fin 128) :
    EReal :=
  attend (fun j => score (fun e => q (lane h e)) g fun e => K j (lane h e)) fun j => V j (lane h d)

/-- The heads beside one another. -/
def heads (q : Fin 512 → EReal) (g : Fin 128 → EReal) (K V : Fin 256 → Fin 512 → EReal) (c : Fin 512) : EReal :=
  gathered q g K V ⟨c.val / 128, by omega⟩ ⟨c.val % 128, by omega⟩

/-- The row after cross-attention: itself and what it gathered, times the output weight. -/
def mixed (x g : Fin 4096 → EReal) (wq : Fin 4096 → Fin 512 → EReal) (gq : Fin 128 → EReal)
    (K V : Fin 256 → Fin 512 → EReal) (wo : Fin 512 → Fin 4096 → EReal) (n : Fin 4096) : EReal :=
  x n + ∑ c : Fin 512, heads (fun c => query x g fun k => wq k c) gq K V c * wo c n

end Cert.CrossIdeal.Value

end
-- ==== Proof.CrossTile.lean ====
/- Cross-attention's tiles: each stage of the body, read at an element. -/
module

public import proofs.«01_k».proof.Proof.CrossRow
public import proofs.«01_k».proof.Proof.Gen.CrossIdeal.Frame
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossIdeal.Value

open Cert.CrossIdeal Cert.CrossIdeal.Gen

/-- The query part of a tile. -/
theorem query_lo (X : Vec Ideal S128x4096 .f32) (g : Vec Ideal S1x4096 .f32) (W : Vec Ideal S4096x512 .bf16) (r : Fin 128)
    (c : Fin 512) :
    k0_pay4 (F := Ideal) X g W (ix2 r c) = query (fun k => X (ix2 r k)) (fun k => g (ix2 0 k)) (fun k => W (ix2 k c)) := by
  pointwise [k0_pay4, query, normed]

theorem query_hi (X : Vec Ideal S128x4096 .f32) (g : Vec Ideal S1x4096 .f32) (W : Vec Ideal S4096x512 .bf16) (r : Fin 128)
    (c : Fin 512) :
    k0_pay5 (F := Ideal) (k0_pay3 X g) W (ix2 r c)
      = query (fun k => X (ix2 r k)) (fun k => g (ix2 0 k)) (fun k => W (ix2 k c)) := by
  pointwise [k0_pay3, k0_pay5, query, normed]

/-! The scores of the four heads, for either half of a tile's rows. -/
theorem score_lo0 (G : FVec Ideal S1x128 .f32) (Q : FVec Ideal S128x512 .f32) (K : Vec Ideal S1x256x128 .bf16) (r : Fin 128)
    (j : Fin 256) :
    k0_pay6 (F := Ideal) G Q K (ix2 r j)
      = score (fun e => Q (ix2 r (lane 0 e))) (fun e => G (ix2 0 e)) (fun e => K (ix3 0 j e)) := by
  pointwise [k0_pay6, score, normed, lane]

theorem score_lo1 (G : FVec Ideal S1x128 .f32) (Q : FVec Ideal S128x512 .f32) (K : Vec Ideal S1x256x128 .bf16) (r : Fin 128)
    (j : Fin 256) :
    k0_pay7 (F := Ideal) G Q K (ix2 r j)
      = score (fun e => Q (ix2 r (lane 1 e))) (fun e => G (ix2 0 e)) (fun e => K (ix3 0 j e)) := by
  pointwise [k0_pay7, score, normed, lane]

theorem score_lo2 (G : FVec Ideal S1x128 .f32) (Q : FVec Ideal S128x512 .f32) (K : Vec Ideal S1x256x128 .bf16) (r : Fin 128)
    (j : Fin 256) :
    k0_pay10 (F := Ideal) G (k0_pay8 Q) (k0_pay9 Q) K (ix2 r j)
      = score (fun e => Q (ix2 r (lane 2 e))) (fun e => G (ix2 0 e)) (fun e => K (ix3 0 j e)) := by
  pointwise [k0_pay10, k0_pay9, k0_pay8, score, normed, lane]

theorem score_lo3 (G : FVec Ideal S1x128 .f32) (Q : FVec Ideal S128x512 .f32) (K : Vec Ideal S1x256x128 .bf16) (r : Fin 128)
    (j : Fin 256) :
    k0_pay11 (F := Ideal) G Q K (ix2 r j)
      = score (fun e => Q (ix2 r (lane 3 e))) (fun e => G (ix2 0 e)) (fun e => K (ix3 0 j e)) := by
  pointwise [k0_pay11, score, normed, lane]

theorem score_hi0 (G : FVec Ideal S1x128 .f32) (Q : FVec Ideal S128x512 .f32) (K : Vec Ideal S1x256x128 .bf16) (r : Fin 128)
    (j : Fin 256) :
    k0_pay14 (F := Ideal) G (k0_pay12 Q) (k0_pay13 Q) (Scalar.ofBits .f32 0x358637BD#32) K (ix2 r j)
      = score (fun e => Q (ix2 r (lane 0 e))) (fun e => G (ix2 0 e)) (fun e => K (ix3 0 j e)) := by
  pointwise [k0_pay14, k0_pay13, k0_pay12, score, normed, lane]

theorem score_hi1 (G : FVec Ideal S1x128 .f32) (Q : FVec Ideal S128x512 .f32) (K : Vec Ideal S1x256x128 .bf16) (r : Fin 128)
    (j : Fin 256) :
    k0_pay15 (F := Ideal) G Q K (ix2 r j)
      = score (fun e => Q (ix2 r (lane 1 e))) (fun e => G (ix2 0 e)) (fun e => K (ix3 0 j e)) := by
  pointwise [k0_pay15, score, normed, lane]

theorem score_hi2 (G : FVec Ideal S1x128 .f32) (Q : FVec Ideal S128x512 .f32) (K : Vec Ideal S1x256x128 .bf16) (r : Fin 128)
    (j : Fin 256) :
    k0_pay18 (F := Ideal) (k0_pay16 Q) (k0_pay17 G) K (ix2 r j)
      = score (fun e => Q (ix2 r (lane 2 e))) (fun e => G (ix2 0 e)) (fun e => K (ix3 0 j e)) := by
  pointwise [k0_pay18, k0_pay17, k0_pay16, score, normed, lane]

theorem score_hi3 (G : FVec Ideal S1x128 .f32) (Q : FVec Ideal S128x512 .f32) (K : Vec Ideal S1x256x128 .bf16) (r : Fin 128)
    (j : Fin 256) :
    k0_pay19 (F := Ideal) G Q K (ix2 r j)
      = score (fun e => Q (ix2 r (lane 3 e))) (fun e => G (ix2 0 e)) (fun e => K (ix3 0 j e)) := by
  pointwise [k0_pay19, score, normed, lane]

/-! What a head gathers. -/

theorem attend_20 (S : FVec Ideal S128x256 .f32) (W : Vec Ideal S1x256x128 .bf16) (r : Fin 128) (d : Fin 128) :
    k0_pay20 (F := Ideal) S W (ix2 r d) = attend (fun j => S (ix2 r j)) (fun j => W (ix3 0 j d)) := by
  pointwise [k0_pay20, attend, soft, top]

theorem attend_22 (S : FVec Ideal S128x256 .f32) (W : Vec Ideal S1x256x128 .bf16) (r : Fin 128) (d : Fin 128) :
    k0_pay22 (F := Ideal) S W (ix2 r d) = attend (fun j => S (ix2 r j)) (fun j => W (ix3 0 j d)) := by
  pointwise [k0_pay22, attend, soft, top]

theorem attend_23 (S : FVec Ideal S128x256 .f32) (W : Vec Ideal S1x256x128 .bf16) (r : Fin 128) (d : Fin 128) :
    k0_pay23 (F := Ideal) S W (ix2 r d) = attend (fun j => S (ix2 r j)) (fun j => W (ix3 0 j d)) := by
  pointwise [k0_pay23, attend, soft, top]

theorem attend_24 (S : FVec Ideal S128x256 .f32) (W : Vec Ideal S1x256x128 .bf16) (r : Fin 128) (d : Fin 128) :
    k0_pay24 (F := Ideal) S W (ix2 r d) = attend (fun j => S (ix2 r j)) (fun j => W (ix3 0 j d)) := by
  pointwise [k0_pay24, attend, soft, top]

/-! A head's columns of the keys and the values. -/

theorem columns_0 (K : Vec Ideal S1x256x512 .bf16) (j : Fin 256) (e : Fin 128) :
    View.ld K r0_5 (ix3 0 j e) = K (ix3 0 j (lane 0 e)) := by
  pointwise [lane]

theorem columns_1 (K : Vec Ideal S1x256x512 .bf16) (j : Fin 256) (e : Fin 128) :
    View.ld K r0_6 (ix3 0 j e) = K (ix3 0 j (lane 1 e)) := by
  pointwise [lane]

theorem columns_2 (K : Vec Ideal S1x256x512 .bf16) (j : Fin 256) (e : Fin 128) :
    View.ld K r0_7 (ix3 0 j e) = K (ix3 0 j (lane 2 e)) := by
  pointwise [lane]

theorem columns_3 (K : Vec Ideal S1x256x512 .bf16) (j : Fin 256) (e : Fin 128) :
    View.ld K r0_8 (ix3 0 j e) = K (ix3 0 j (lane 3 e)) := by
  pointwise [lane]

end Cert.CrossIdeal.Value

end
-- ==== Proof.CrossTile2.lean ====
/- Cross-attention's tiles, row by row. -/
module

public import proofs.«01_k».proof.Proof.CrossTile
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossIdeal.Value

open Cert.CrossIdeal Cert.CrossIdeal.Gen

/-- Row `r` of a tile after cross-attention, from the blocks a grid point holds. -/
def row (x0 : Vec Ideal S256x4096 .f32) (x1 : Vec Ideal S1x4096 .f32) (x2 : Vec Ideal S4096x512 .bf16) (x3 : Vec Ideal S1x128 .f32)
    (x4 x5 : Vec Ideal S1x256x512 .bf16) (x6 : Vec Ideal S512x4096 .bf16) (r : Fin 256) (n : Fin 4096) : EReal :=
  mixed (fun k => x0 (ix2 r k)) (fun k => x1 (ix2 0 k)) (fun k c => x2 (ix2 k c)) (fun e => x3 (ix2 0 e))
    (fun j c => x4 (ix3 0 j c)) (fun j c => x5 (ix3 0 j c)) (fun c n => x6 (ix2 c n)) n

/-! Whole blocks and halves of rows, read. -/

theorem read_lo (x0 : Vec Ideal S256x4096 .f32) (r : Fin 128) (k : Fin 4096) :
    View.ld x0 r0_1 (ix2 r k) = x0 (ix2 ⟨r.val, by omega⟩ k) := by
  pointwise []

theorem read_hi (x0 : Vec Ideal S256x4096 .f32) (r : Fin 128) (k : Fin 4096) :
    View.ld x0 r0_2 (ix2 r k) = x0 (ix2 ⟨128 + r.val, by omega⟩ k) := by
  pointwise []

theorem read_gain (x1 : Vec Ideal S1x4096 .f32) (k : Fin 4096) : View.ld x1 r0_3 (ix2 0 k) = x1 (ix2 0 k) := by
  pointwise []

theorem read_wq (x2 : Vec Ideal S4096x512 .bf16) (k : Fin 4096) (c : Fin 512) : View.ld x2 r0_4 (ix2 k c) = x2 (ix2 k c) := by
  pointwise []

theorem read_wo (x6 : Vec Ideal S512x4096 .bf16) (c : Fin 512) (n : Fin 4096) : View.ld x6 r0_9 (ix2 c n) = x6 (ix2 c n) := by
  pointwise []

/-- The head gain, as the body binds it. -/
theorem gain_at (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32) (e : Fin 128) : k0_pay28 (F := Ideal) x0 x1 x2 x3 x4 x5 x6 x7 (ix2 0 e) = x3 (ix2 0 e) := by
  pointwise [k0_pay28, k0_pay2]

/-- The upper rows' queries. -/
theorem lo_query (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32) (r : Fin 128) (c : Fin 512) :
    k0_pay29 (F := Ideal) x0 x1 x2 x3 x4 x5 x6 x7 (ix2 r c)
      = query (fun k => x0 (ix2 ⟨r.val, by omega⟩ k)) (fun k => x1 (ix2 0 k)) (fun k => x2 (ix2 k c)) := by
  unfold k0_pay29
  exact (query_lo _ _ _ r c).trans (congr (congr (congrArg query (funext fun k => read_lo x0 r k))
    (funext fun k => read_gain x1 k)) (funext fun k => read_wq x2 k c))

/-- The lower rows' queries. -/
theorem hi_query (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32) (r : Fin 128) (c : Fin 512) :
    k0_pay30 (F := Ideal) x0 x1 x2 x3 x4 x5 x6 x7 (ix2 r c)
      = query (fun k => x0 (ix2 ⟨128 + r.val, by omega⟩ k)) (fun k => x1 (ix2 0 k)) (fun k => x2 (ix2 k c)) := by
  unfold k0_pay30
  exact (query_hi _ _ _ r c).trans (congr (congr (congrArg query (funext fun k => read_hi x0 r k))
    (funext fun k => read_gain x1 k)) (funext fun k => read_wq x2 k c))

/-- Columns in the order of their heads. -/
theorem heads_of (q : Fin 512 → EReal) (g : Fin 128 → EReal) (K V : Fin 256 → Fin 512 → EReal) (h : Fin 4) (c : Fin 512)
    (d : Fin 128) (e : c.val = h.val * 128 + d.val) : heads q g K V c = gathered q g K V h d := by
  unfold heads
  have eh : (⟨c.val / 128, by omega⟩ : Fin 4) = h := Fin.ext (by show c.val / 128 = h.val; omega)
  have ed : (⟨c.val % 128, by omega⟩ : Fin 128) = d := Fin.ext (by show c.val % 128 = d.val; omega)
  rw [eh, ed]

/-- Four heads' columns side by side. -/
theorem side_by_side (A B C D : FVec Ideal S128x128 .bf16) (r : Fin 128) (q : Fin 512 → EReal) (g : Fin 128 → EReal)
    (K V : Fin 256 → Fin 512 → EReal) (hA : ∀ d, A (ix2 r d) = gathered q g K V 0 d)
    (hB : ∀ d, B (ix2 r d) = gathered q g K V 1 d) (hC : ∀ d, C (ix2 r d) = gathered q g K V 2 d)
    (hD : ∀ d, D (ix2 r d) = gathered q g K V 3 d) (c : Fin 512) :
    concatenate S128x512 1 [⟨S128x128, A⟩, ⟨S128x128, B⟩, ⟨S128x128, C⟩, ⟨S128x128, D⟩]
      concatenates_S128x128_S128x128_S128x128_S128x128_S128x512_d1 (ix2 r c) = heads q g K V c := by
  pointwise []
  by_cases h0 : c.val < 128
  · rw [dif_pos h0, hA]
    exact (heads_of q g K V 0 c _ (by show c.val = 0 * 128 + c.val; omega)).symm
  rw [dif_neg h0]
  by_cases h1 : c.val - 128 < 128
  · rw [dif_pos h1, hB]
    exact (heads_of q g K V 1 c _ (by show c.val = 1 * 128 + (c.val - 128); omega)).symm
  rw [dif_neg h1]
  by_cases h2 : c.val - 128 - 128 < 128
  · rw [dif_pos h2, hC]
    exact (heads_of q g K V 2 c _ (by show c.val = 2 * 128 + (c.val - 128 - 128); omega)).symm
  rw [dif_neg h2, hD]
  exact (heads_of q g K V 3 c _ (by show c.val = 3 * 128 + (c.val - 128 - 128 - 128); omega)).symm

/-- One head, from its scores and its values. -/
theorem head_eq (S : Fin 256 → EReal) (W : Fin 256 → EReal) (q : Fin 512 → EReal) (g : Fin 128 → EReal)
    (K V : Fin 256 → Fin 512 → EReal) (h : Fin 4) (d : Fin 128)
    (hS : ∀ j, S j = score (fun e => q (lane h e)) g (fun e => K j (lane h e))) (hW : ∀ j, W j = V j (lane h d)) :
    attend S W = gathered q g K V h d := by
  rw [funext hS, funext hW]
  rfl

/-- A score, from the row's query, the head gain and the key. -/
theorem score_eq {q q' g g' k k' : Fin 128 → EReal} (hq : ∀ e, q e = q' e) (hg : ∀ e, g e = g' e) (hk : ∀ e, k e = k' e) :
    score q g k = score q' g' k' := by
  rw [funext hq, funext hg, funext hk]

/-- The upper rows' heads. -/
theorem lo_heads (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32) (r : Fin 128) (c : Fin 512) :
    k0_pay31 (F := Ideal) x0 x1 x2 x3 x4 x5 x6 x7 (ix2 r c)
      = heads (fun c => query (fun k => x0 (ix2 ⟨r.val, by omega⟩ k)) (fun k => x1 (ix2 0 k)) (fun k => x2 (ix2 k c)))
          (fun e => x3 (ix2 0 e)) (fun j c => x4 (ix3 0 j c)) (fun j c => x5 (ix3 0 j c)) c := by
  refine (side_by_side
    (k0_pay20 (k0_pay6 (k0_pay28 x0 x1 x2 x3 x4 x5 x6 x7) (k0_pay29 x0 x1 x2 x3 x4 x5 x6 x7) (View.ld x4 r0_5)) (View.ld x5 r0_5))
    (k0_pay22 (k0_pay7 (k0_pay28 x0 x1 x2 x3 x4 x5 x6 x7) (k0_pay29 x0 x1 x2 x3 x4 x5 x6 x7) (View.ld x4 r0_6)) (View.ld x5 r0_6))
    (k0_pay23 (k0_pay10 (k0_pay28 x0 x1 x2 x3 x4 x5 x6 x7) (k0_pay8 (k0_pay29 x0 x1 x2 x3 x4 x5 x6 x7)) (k0_pay9 (k0_pay29 x0 x1 x2 x3 x4 x5 x6 x7)) (View.ld x4 r0_7))
      (View.ld x5 r0_7))
    (k0_pay24 (k0_pay11 (k0_pay28 x0 x1 x2 x3 x4 x5 x6 x7) (k0_pay29 x0 x1 x2 x3 x4 x5 x6 x7) (View.ld x4 r0_8)) (View.ld x5 r0_8))
    r _ _ _ _ ?_ ?_ ?_ ?_ c)
  · intro d
    refine (attend_20 _ _ r d).trans (head_eq _ _ _ _ _ _ 0 d (fun j => ?_) fun j => columns_0 x5 j d)
    exact (score_lo0 _ _ _ r j).trans
      (score_eq (fun e => lo_query x0 x1 x2 x3 x4 x5 x6 x7 r (lane 0 e)) (gain_at x0 x1 x2 x3 x4 x5 x6 x7) fun e => columns_0 x4 j e)
  · intro d
    refine (attend_22 _ _ r d).trans (head_eq _ _ _ _ _ _ 1 d (fun j => ?_) fun j => columns_1 x5 j d)
    exact (score_lo1 _ _ _ r j).trans
      (score_eq (fun e => lo_query x0 x1 x2 x3 x4 x5 x6 x7 r (lane 1 e)) (gain_at x0 x1 x2 x3 x4 x5 x6 x7) fun e => columns_1 x4 j e)
  · intro d
    refine (attend_23 _ _ r d).trans (head_eq _ _ _ _ _ _ 2 d (fun j => ?_) fun j => columns_2 x5 j d)
    exact (score_lo2 _ _ _ r j).trans
      (score_eq (fun e => lo_query x0 x1 x2 x3 x4 x5 x6 x7 r (lane 2 e)) (gain_at x0 x1 x2 x3 x4 x5 x6 x7) fun e => columns_2 x4 j e)
  · intro d
    refine (attend_24 _ _ r d).trans (head_eq _ _ _ _ _ _ 3 d (fun j => ?_) fun j => columns_3 x5 j d)
    exact (score_lo3 _ _ _ r j).trans
      (score_eq (fun e => lo_query x0 x1 x2 x3 x4 x5 x6 x7 r (lane 3 e)) (gain_at x0 x1 x2 x3 x4 x5 x6 x7) fun e => columns_3 x4 j e)

/-- A row and its heads' columns times the output weight. -/
theorem add_heads (X : Vec Ideal S128x4096 .f32) (O : FVec Ideal S128x512 .bf16) (W : Vec Ideal S512x4096 .bf16) (r : Fin 128)
    (n : Fin 4096) : k0_pay25 (F := Ideal) X O W (ix2 r n) = X (ix2 r n) + ∑ c : Fin 512, O (ix2 r c) * W (ix2 c n) := by
  pointwise [k0_pay25]

/-- The upper rows of a tile. -/
theorem lo_row (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32) (r : Fin 128) (n : Fin 4096) :
    k0_pay25 (F := Ideal) (View.ld x0 r0_1) (k0_pay31 x0 x1 x2 x3 x4 x5 x6 x7) (View.ld x6 r0_9) (ix2 r n)
      = row x0 x1 x2 x3 x4 x5 x6 ⟨r.val, by omega⟩ n := by
  rw [add_heads, read_lo]
  refine congrArg (_ + ·) (Finset.sum_congr rfl fun c _ => ?_)
  rw [read_wo, lo_heads]

/-- The lower rows of a tile. -/
theorem hi_row (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32) (r : Fin 128) (n : Fin 4096) :
    k0_pay32 (F := Ideal) x0 x1 x2 x3 x4 x5 x6 x7 (ix2 r n) = row x0 x1 x2 x3 x4 x5 x6 ⟨128 + r.val, by omega⟩ n := by
  have e : k0_pay32 (F := Ideal) x0 x1 x2 x3 x4 x5 x6 x7 = k0_pay25 (View.ld x0 r0_2)
      (concatenate S128x512 1 [
        ⟨S128x128, k0_pay22 (k0_pay14 (k0_pay28 x0 x1 x2 x3 x4 x5 x6 x7) (k0_pay12 (k0_pay30 x0 x1 x2 x3 x4 x5 x6 x7)) (k0_pay13 (k0_pay30 x0 x1 x2 x3 x4 x5 x6 x7)) (Scalar.ofBits .f32 0x358637BD#32) (View.ld x4 r0_5)) (View.ld x5 r0_5)⟩,
        ⟨S128x128, k0_pay23 (k0_pay15 (k0_pay28 x0 x1 x2 x3 x4 x5 x6 x7) (k0_pay30 x0 x1 x2 x3 x4 x5 x6 x7) (View.ld x4 r0_6)) (View.ld x5 r0_6)⟩,
        ⟨S128x128, k0_pay24 (k0_pay18 (k0_pay16 (k0_pay30 x0 x1 x2 x3 x4 x5 x6 x7)) (k0_pay17 (k0_pay28 x0 x1 x2 x3 x4 x5 x6 x7)) (View.ld x4 r0_7)) (View.ld x5 r0_7)⟩,
        ⟨S128x128, k0_pay20 (k0_pay19 (k0_pay28 x0 x1 x2 x3 x4 x5 x6 x7) (k0_pay30 x0 x1 x2 x3 x4 x5 x6 x7) (View.ld x4 r0_8)) (View.ld x5 r0_8)⟩]
        concatenates_S128x128_S128x128_S128x128_S128x128_S128x512_d1) (View.ld x6 r0_9) := rfl
  rw [e, add_heads, read_hi]
  refine congrArg (_ + ·) (Finset.sum_congr rfl fun c _ => ?_)
  rw [read_wo]
  refine congrArg (· * _) ?_
  refine side_by_side _ _ _ _ r _ _ _ _ ?_ ?_ ?_ ?_ c
  · intro d
    refine (attend_22 _ _ r d).trans (head_eq _ _ _ _ _ _ 0 d (fun j => ?_) fun j => columns_0 x5 j d)
    exact (score_hi0 _ _ _ r j).trans
      (score_eq (fun e => hi_query x0 x1 x2 x3 x4 x5 x6 x7 r (lane 0 e)) (gain_at x0 x1 x2 x3 x4 x5 x6 x7) fun e => columns_0 x4 j e)
  · intro d
    refine (attend_23 _ _ r d).trans (head_eq _ _ _ _ _ _ 1 d (fun j => ?_) fun j => columns_1 x5 j d)
    exact (score_hi1 _ _ _ r j).trans
      (score_eq (fun e => hi_query x0 x1 x2 x3 x4 x5 x6 x7 r (lane 1 e)) (gain_at x0 x1 x2 x3 x4 x5 x6 x7) fun e => columns_1 x4 j e)
  · intro d
    refine (attend_24 _ _ r d).trans (head_eq _ _ _ _ _ _ 2 d (fun j => ?_) fun j => columns_2 x5 j d)
    exact (score_hi2 _ _ _ r j).trans
      (score_eq (fun e => hi_query x0 x1 x2 x3 x4 x5 x6 x7 r (lane 2 e)) (gain_at x0 x1 x2 x3 x4 x5 x6 x7) fun e => columns_2 x4 j e)
  · intro d
    refine (attend_20 _ _ r d).trans (head_eq _ _ _ _ _ _ 3 d (fun j => ?_) fun j => columns_3 x5 j d)
    exact (score_hi3 _ _ _ r j).trans
      (score_eq (fun e => hi_query x0 x1 x2 x3 x4 x5 x6 x7 r (lane 3 e)) (gain_at x0 x1 x2 x3 x4 x5 x6 x7) fun e => columns_3 x4 j e)

/-- A tile's norm, either half. -/
theorem norm_lo (X : Vec Ideal S128x4096 .f32) (O : FVec Ideal S128x512 .bf16) (W : Vec Ideal S512x4096 .bf16)
    (g : Vec Ideal S1x4096 .f32) (r : Fin 128) (n : Fin 4096) :
    k0_pay27 (F := Ideal) X O W g (ix2 r n)
      = normed (Ideal.ofBits .f32 0x45800000#32) (fun n => k0_pay25 X O W (ix2 r n)) (fun n => g (ix2 0 n)) n := by
  unfold k0_pay27
  generalize k0_pay25 X O W = H
  pointwise [normed]

theorem norm_hi (H : FVec Ideal S128x4096 .f32) (g : Vec Ideal S1x4096 .f32) (r : Fin 128) (n : Fin 4096) :
    k0_pay1 (F := Ideal) H g (ix2 r n)
      = normed (Ideal.ofBits .f32 0x45800000#32) (fun n => H (ix2 r n)) (fun n => g (ix2 0 n)) n := by
  pointwise [k0_pay1, normed]

/-- The tile a grid point stores of the first result. -/
theorem stored (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32)
    (y : S256x4096.Idx) :
    out0_8 (F := Ideal) x0 x1 x2 x3 x4 x5 x6 x7 y = row x0 x1 x2 x3 x4 x5 x6 (y 0) (y 1) := by
  canon_tiles x h
  all_goals
    obtain ⟨r, n, rfl⟩ : ∃ (r : Fin 128) (n : Fin 4096), x = ix2 r n :=
      ⟨x 0, x 1, by funext a; fin_cases a <;> rfl⟩
  · refine (hi_row x0 x1 x2 x3 x4 x5 x6 x7 r n).trans ?_
    exact congr (congrArg (row x0 x1 x2 x3 x4 x5 x6) (Fin.ext h0.symm)) (Fin.ext h1.symm)
  · refine (lo_row x0 x1 x2 x3 x4 x5 x6 x7 r n).trans ?_
    exact congr (congrArg (row x0 x1 x2 x3 x4 x5 x6) (Fin.ext h0.symm)) (Fin.ext h1.symm)

/-- A row's norm, times the gain. -/
def normed_row (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32)
    (r : Fin 256) (n : Fin 4096) : EReal :=
  normed (Ideal.ofBits .f32 0x45800000#32) (row x0 x1 x2 x3 x4 x5 x6 r) (fun n => x7 (ix2 0 n)) n

/-- The tile a grid point stores of the second result. -/
theorem stored_normed (x0 : Vec Ideal S256x4096 .f32) (x1 : Vec Ideal S1x4096 .f32) (x2 : Vec Ideal S4096x512 .bf16)
    (x3 : Vec Ideal S1x128 .f32) (x4 x5 : Vec Ideal S1x256x512 .bf16) (x6 : Vec Ideal S512x4096 .bf16) (x7 : Vec Ideal S1x4096 .f32)
    (y : S256x4096.Idx) :
    out0_9 (F := Ideal) x0 x1 x2 x3 x4 x5 x6 x7 y = normed_row x0 x1 x2 x3 x4 x5 x6 x7 (y 0) (y 1) := by
  canon_tiles x h
  all_goals
    obtain ⟨r, n, rfl⟩ : ∃ (r : Fin 128) (n : Fin 4096), x = ix2 r n :=
      ⟨x 0, x 1, by funext a; fin_cases a <;> rfl⟩
  · refine (norm_hi _ _ r n).trans ?_
    rw [funext fun n => hi_row x0 x1 x2 x3 x4 x5 x6 x7 r n, funext fun n => read_gain x7 n]
    exact congr (congrArg (normed_row x0 x1 x2 x3 x4 x5 x6 x7) (Fin.ext h0.symm)) (Fin.ext h1.symm)
  · refine (norm_lo _ _ _ _ r n).trans ?_
    rw [funext fun n => lo_row x0 x1 x2 x3 x4 x5 x6 x7 r n, funext fun n => read_gain x7 n]
    exact congr (congrArg (normed_row x0 x1 x2 x3 x4 x5 x6 x7) (Fin.ext h0.symm)) (Fin.ext h1.symm)

end Cert.CrossIdeal.Value

end
-- ==== Proof.CrossRef.lean ====
/- Cross-attention's reference, read at an element: each row attends to its batch's memory. -/
module

public import proofs.«01_k».proof.Proof.CrossRow
public import proofs.«01_k».proof.Proof.Gen.CrossRefIdeal.Run
public import proofs.«01_k».proof.Proof.Gen.CrossRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossIdeal.Value

open Cert.CrossRefIdeal Cert.CrossRefIdeal.Gen Cert.CrossRefIdeal.Read

variable (x0 : FVec Ideal S16384x4096 .f32) (x1 : FVec Ideal S4096 .f32) (x2 : FVec Ideal S4096x512 .f32)
  (x3 : FVec Ideal S128 .f32) (x4 x5 : FVec Ideal S2x256x512 .bf16) (x6 : FVec Ideal S512x4096 .f32) (x7 : FVec Ideal S4096 .f32)

/-- The queries before their norm. -/
theorem ref_query (b : Fin 2) (s : Fin 8192) (c : Fin 512) :
    val_main_v14 (F := Ideal) x0 x1 x2 (ix3 b s c)
      = query (fun k => x0 (ix2 ⟨b.val * 8192 + s.val, by omega⟩ k)) (fun k => x1 (ix1 k)) (fun k => x2 (ix2 k c)) := by
  pointwise [query, normed, val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1]

/-- The scores. -/
theorem ref_score (b : Fin 2) (h : Fin 4) (s : Fin 8192) (j : Fin 256) :
    val_main_v35 (F := Ideal) x0 x1 x2 x3 x4 (ix4 b h s j)
      = score (fun e => val_main_v14 (F := Ideal) x0 x1 x2 (ix3 b s (lane h e))) (fun e => x3 (ix1 e))
          (fun e => x4 (ix3 b j (lane h e))) := by
  unfold val_main_v35 val_main_v34 val_main_v33 val_main_v30 val_main_v29 val_main_v28 val_main_v27 val_main_v26 val_main_v25 val_main_v24 val_main_v23 val_main_v22 val_main_v21 val_main_v20 val_main_v19 val_main_v18 val_main_v17 val_main_v16 val_main_v15 val_main_cst_2 val_main_cst_3 val_main_cst_4 val_main_cst_5
  generalize val_main_v14 (F := Ideal) x0 x1 x2 = Q
  pointwise [score, normed, lane]

/-- The largest score. -/
theorem ref_top (S : FVec Ideal S2x4x8192x256 .f32) (b : Fin 2) (h : Fin 4) (s : Fin 8192) :
    Host.reduce FloatOps.maximumf S (constant S_ .f32 0xFF800000#32) reducesTo_S2x4x8192x256_S2x4x8192_d3 h_S_ (ix3 b h s)
      = top (fun x => S (ix4 b h s x)) := by
  pointwise [top]

/-- The lower bound of the scores adds nothing to their largest. -/
theorem top_max (f : Fin 256 → EReal) : max (Ideal.ofBits .f32 0xFF800000#32) (top f) = top f := by
  have e : Ideal.ofBits .f32 0xFF800000#32 ≤ top f := (Finset.le_fold_max _).mpr (Or.inl le_rfl)
  exact max_eq_right e

/-- The larger of two, at an element. -/
theorem max_at (N M : FVec Ideal S2x4x8192 .f32) (i : S2x4x8192.Idx) (p q : EReal) (hp : N i = p) (hq : M i = q) :
    maximumf N M i = max p q := by
  rw [← hp, ← hq]
  rfl

/-- The largest score. -/
theorem ref_max (b : Fin 2) (h : Fin 4) (s : Fin 8192) (j : Fin 256) :
    val_main_v40 (F := Ideal) x0 x1 x2 x3 x4 (ix4 b h s j)
      = top (fun x => val_main_v35 (F := Ideal) x0 x1 x2 x3 x4 (ix4 b h s x)) := by
  have e : val_main_v40 (F := Ideal) x0 x1 x2 x3 x4 (ix4 b h s j)
      = val_main_v38 (F := Ideal) x0 x1 x2 x3 x4 (ix3 b h s) := by
    unfold val_main_v40 val_main_v39
    generalize val_main_v38 (F := Ideal) x0 x1 x2 x3 x4 = M
    pointwise []
  have e37 : val_main_v37 (F := Ideal) (ix3 b h s) = Ideal.ofBits .f32 0xFF800000#32 := by
    unfold val_main_v37 val_main_cst_7
    pointwise []
  have e36 : val_main_v36 (F := Ideal) x0 x1 x2 x3 x4 (ix3 b h s)
      = top (fun x => val_main_v35 (F := Ideal) x0 x1 x2 x3 x4 (ix4 b h s x)) := by
    unfold val_main_v36 val_main_cst_6
    generalize val_main_v35 (F := Ideal) x0 x1 x2 x3 x4 = S
    exact ref_top S b h s
  rw [e]
  unfold val_main_v38
  exact (max_at _ _ _ _ _ e37 e36).trans (top_max _)

/-- The exponentials. -/
theorem ref_exp (b : Fin 2) (h : Fin 4) (s : Fin 8192) (j : Fin 256) :
    val_main_v42 (F := Ideal) x0 x1 x2 x3 x4 (ix4 b h s j)
      = Ideal.exp (val_main_v35 (F := Ideal) x0 x1 x2 x3 x4 (ix4 b h s j)
          - top (fun x => val_main_v35 (F := Ideal) x0 x1 x2 x3 x4 (ix4 b h s x))) := by
  rw [val_main_v42_apply, val_main_v41_apply, ref_max]
  rfl

/-- The weights. -/
theorem ref_soft (b : Fin 2) (h : Fin 4) (s : Fin 8192) (j : Fin 256) :
    val_main_v46 (F := Ideal) x0 x1 x2 x3 x4 (ix4 b h s j)
      = soft (fun x => val_main_v35 (F := Ideal) x0 x1 x2 x3 x4 (ix4 b h s x)) j := by
  have e : val_main_v45 (F := Ideal) x0 x1 x2 x3 x4 (ix4 b h s j)
      = ∑ i : Fin 256, val_main_v42 (F := Ideal) x0 x1 x2 x3 x4 (ix4 b h s i) := by
    unfold val_main_v45 val_main_v44 val_main_v43 val_main_cst_8
    generalize val_main_v42 (F := Ideal) x0 x1 x2 x3 x4 = E
    pointwise []
  rw [val_main_v46_apply, e, ref_exp]
  unfold soft
  refine congrArg (Ideal.div _) (Finset.sum_congr rfl fun i _ => ?_)
  exact ref_exp x0 x1 x2 x3 x4 b h s i

/-- What the heads gather. -/
theorem ref_heads (b : Fin 2) (s : Fin 8192) (c : Fin 512) :
    val_main_v49 (F := Ideal) x0 x1 x2 x3 x4 x5 (ix3 b s c)
      = heads (fun c => val_main_v14 (F := Ideal) x0 x1 x2 (ix3 b s c)) (fun e => x3 (ix1 e)) (fun j c => x4 (ix3 b j c))
          (fun j c => x5 (ix3 b j c)) c := by
  have e : val_main_v49 (F := Ideal) x0 x1 x2 x3 x4 x5 (ix3 b s c)
      = ∑ j : Fin 256, x5 (ix3 b j c)
          * val_main_v46 (F := Ideal) x0 x1 x2 x3 x4 (ix4 b ⟨c.val / 128, by omega⟩ s j) := by
    unfold val_main_v49 val_main_v48 val_main_v47 val_main_v32 val_main_v31
    generalize val_main_v46 (F := Ideal) x0 x1 x2 x3 x4 = P
    pointwise []
  have hc : lane ⟨c.val / 128, by omega⟩ ⟨c.val % 128, by omega⟩ = c :=
    Fin.ext (by show c.val / 128 * 128 + c.val % 128 = c.val; omega)
  rw [e]
  unfold heads gathered attend
  refine Finset.sum_congr rfl fun j _ => ?_
  rw [mul_comm, ref_soft, hc]
  simp only [ref_score]

/-- The rows after cross-attention. -/
theorem ref_mixed (b : Fin 2) (s : Fin 8192) (n : Fin 4096) :
    val_main_v51 (F := Ideal) x0 x1 x2 x3 x4 x5 x6 (ix3 b s n)
      = mixed (fun k => x0 (ix2 ⟨b.val * 8192 + s.val, by omega⟩ k)) (fun k => x1 (ix1 k)) (fun k c => x2 (ix2 k c))
          (fun e => x3 (ix1 e)) (fun j c => x4 (ix3 b j c)) (fun j c => x5 (ix3 b j c)) (fun c n => x6 (ix2 c n)) n := by
  have e : val_main_v51 (F := Ideal) x0 x1 x2 x3 x4 x5 x6 (ix3 b s n)
      = x0 (ix2 ⟨b.val * 8192 + s.val, by omega⟩ n)
        + ∑ c : Fin 512, val_main_v49 (F := Ideal) x0 x1 x2 x3 x4 x5 (ix3 b s c) * x6 (ix2 c n) := by
    unfold val_main_v51 val_main_v50 val_main_v0
    generalize val_main_v49 (F := Ideal) x0 x1 x2 x3 x4 x5 = O
    pointwise []
  rw [e]
  simp only [ref_heads, ref_query]
  rfl

/-- The first result. -/
theorem ref_rows (b : Fin 2) (s : Fin 8192) (n : Fin 4096) :
    val_main_v65 (F := Ideal) x0 x1 x2 x3 x4 x5 x6 (ix2 ⟨b.val * 8192 + s.val, by omega⟩ n)
      = val_main_v51 (F := Ideal) x0 x1 x2 x3 x4 x5 x6 (ix3 b s n) := by
  unfold val_main_v65
  generalize val_main_v51 (F := Ideal) x0 x1 x2 x3 x4 x5 x6 = H
  pointwise []

/-- The second result. -/
theorem ref_normed (b : Fin 2) (s : Fin 8192) (n : Fin 4096) :
    val_main_v67 (F := Ideal) x0 x1 x2 x3 x4 x5 x6 x7 (ix2 ⟨b.val * 8192 + s.val, by omega⟩ n)
      = normed (Ideal.ofBits .f32 0x45800000#32) (fun n => val_main_v51 (F := Ideal) x0 x1 x2 x3 x4 x5 x6 (ix3 b s n))
          (fun n => x7 (ix1 n)) n := by
  unfold val_main_v67 val_main_v66 val_main_v64 val_main_v63 val_main_v62 val_main_v61 val_main_v60 val_main_v59 val_main_v58 val_main_v57 val_main_v56 val_main_v55 val_main_v54 val_main_v53 val_main_v52 val_main_cst_9 val_main_cst_10 val_main_cst_11
  generalize val_main_v51 (F := Ideal) x0 x1 x2 x3 x4 x5 x6 = H
  pointwise [normed]

end Cert.CrossIdeal.Value

end
-- ==== Proof.CrossValue.lean ====
/- Cross-attention over the memory: the kernel's tiles are tiles of the reference's rows, and of their norm. -/
module

public import proofs.«01_k».proof.Proof.CrossTile2
public import proofs.«01_k».proof.Proof.CrossRef
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CrossIdeal.Value

open Cert.CrossIdeal Cert.CrossIdeal.Gen

variable (m : (ℓ : Loc nD τ sig) → Buf (Elt Ideal) ℓ)

/-- The arguments: the rows, their norm's gain, the query weight, the heads' gain, the memory's keys and values, the output
    weight, the next norm's gain. -/
abbrev rows (c : Dev nD) : FVec Ideal S16384x4096 .f32 := m ((c : Thread nD τ).loc main_arg0)
abbrev gain (c : Dev nD) : FVec Ideal S4096 .f32 := m ((c : Thread nD τ).loc main_arg1)
abbrev wq (c : Dev nD) : FVec Ideal S4096x512 .f32 := m ((c : Thread nD τ).loc main_arg2)
abbrev qGain (c : Dev nD) : FVec Ideal S128 .f32 := m ((c : Thread nD τ).loc main_arg3)
abbrev keys (c : Dev nD) : FVec Ideal S2x256x512 .bf16 := m ((c : Thread nD τ).loc main_arg4)
abbrev vals (c : Dev nD) : FVec Ideal S2x256x512 .bf16 := m ((c : Thread nD τ).loc main_arg5)
abbrev wo (c : Dev nD) : FVec Ideal S512x4096 .f32 := m ((c : Thread nD τ).loc main_arg6)
abbrev nextGain (c : Dev nD) : FVec Ideal S4096 .f32 := m ((c : Thread nD τ).loc main_arg7)

/-- The reference's rows after cross-attention, over the kernel's argument arrays. -/
abbrev target (c : Dev nD) : FVec Ideal Cert.CrossRefIdeal.S16384x4096 .f32 :=
  Cert.CrossRefIdeal.Read.val_main_v65 (F := Ideal) (rows m c) (gain m c) (wq m c) (qGain m c) (keys m c) (vals m c) (wo m c)

/-- The reference's norm of them. -/
abbrev normed_target (c : Dev nD) : FVec Ideal Cert.CrossRefIdeal.S16384x4096 .bf16 :=
  Cert.CrossRefIdeal.Read.val_main_v67 (F := Ideal) (rows m c) (gain m c) (wq m c) (qGain m c) (keys m c) (vals m c) (wo m c) (nextGain m c)

/-- Which block each window holds at a grid point `t`: row block `t` of the input and of the results (32 of them a batch),
    batch `t / 32` of the memory, the whole of everything else. -/
theorem placement : ∀ t : Fin cfg0.N, win0_0.index t = ![t.val, 0]
    ∧ win0_1.index t = ![0, 0]
    ∧ win0_2.index t = ![0, 0]
    ∧ win0_3.index t = ![0, 0]
    ∧ win0_4.index t = ![t.val / 32, 0, 0]
    ∧ win0_5.index t = ![t.val / 32, 0, 0]
    ∧ win0_6.index t = ![0, 0]
    ∧ win0_7.index t = ![0, 0]
    ∧ win0_8.index t = ![t.val, 0]
    ∧ win0_9.index t = ![t.val, 0] :=
  (by decide +kernel : ∀ t : Fin grid0.N, _)

/-! What a grid point holds, of the argument arrays. -/

theorem rows_at (c : Dev nD) (t : Fin cfg0.N) (r : Fin 256) (k : Fin 4096) (R : Fin 16384) (hR : R.val = t.val * 256 + r.val) :
    iblk m c 0 t (ix2 r k) = rows m c (ix2 R k) := by
  blk_point [iblk, V, placement t, hR]

theorem keys_at (c : Dev nD) (t : Fin cfg0.N) (j : Fin 256) (k : Fin 512) (b : Fin 2) (hb : b.val = t.val / 32) :
    iblk m c 4 t (ix3 0 j k) = keys m c (ix3 b j k) := by
  blk_point [iblk, V, placement t, hb]

theorem vals_at (c : Dev nD) (t : Fin cfg0.N) (j : Fin 256) (k : Fin 512) (b : Fin 2) (hb : b.val = t.val / 32) :
    iblk m c 5 t (ix3 0 j k) = vals m c (ix3 b j k) := by
  blk_point [iblk, V, placement t, hb]

theorem gain_read (c : Dev nD) (t : Fin cfg0.N) (k : Fin 4096) : iblk m c 1 t (ix2 0 k) = gain m c (ix1 k) := by
  have e : ((cfg0.win 1).blk t).view.emb (ix2 0 k) = (ix2 0 k : S1x4096.Idx) := by
    blk_ext [placement t]
  refine (show iblk m c 1 t (ix2 0 k) = V m c main_v2 (ix2 0 k) from congrArg (V m c main_v2) e).trans ?_
  entry_read
  pointwise []

theorem wq_read (c : Dev nD) (t : Fin cfg0.N) (k : Fin 4096) (n : Fin 512) : iblk m c 2 t (ix2 k n) = wq m c (ix2 k n) := by
  have e : ((cfg0.win 2).blk t).view.emb (ix2 k n) = (ix2 k n : S4096x512.Idx) := by
    blk_ext [placement t]
  refine (show iblk m c 2 t (ix2 k n) = V m c main_v0 (ix2 k n) from congrArg (V m c main_v0) e).trans ?_
  entry_read
  pointwise []

theorem qGain_read (c : Dev nD) (t : Fin cfg0.N) (k : Fin 128) : iblk m c 3 t (ix2 0 k) = qGain m c (ix1 k) := by
  have e : ((cfg0.win 3).blk t).view.emb (ix2 0 k) = (ix2 0 k : S1x128.Idx) := by
    blk_ext [placement t]
  refine (show iblk m c 3 t (ix2 0 k) = V m c main_v3 (ix2 0 k) from congrArg (V m c main_v3) e).trans ?_
  entry_read
  pointwise []

theorem wo_read (c : Dev nD) (t : Fin cfg0.N) (k : Fin 512) (n : Fin 4096) : iblk m c 6 t (ix2 k n) = wo m c (ix2 k n) := by
  have e : ((cfg0.win 6).blk t).view.emb (ix2 k n) = (ix2 k n : S512x4096.Idx) := by
    blk_ext [placement t]
  refine (show iblk m c 6 t (ix2 k n) = V m c main_v1 (ix2 k n) from congrArg (V m c main_v1) e).trans ?_
  entry_read
  pointwise []

theorem nextGain_read (c : Dev nD) (t : Fin cfg0.N) (k : Fin 4096) : iblk m c 7 t (ix2 0 k) = nextGain m c (ix1 k) := by
  have e : ((cfg0.win 7).blk t).view.emb (ix2 0 k) = (ix2 0 k : S1x4096.Idx) := by
    blk_ext [placement t]
  refine (show iblk m c 7 t (ix2 0 k) = V m c main_v4 (ix2 0 k) from congrArg (V m c main_v4) e).trans ?_
  entry_read
  pointwise []

/-- The row a grid point computes is the reference's. -/
theorem row_eq (c : Dev nD) (t : Fin cfg0.N) (r : Fin 256) (n : Fin 4096) (b : Fin 2) (s : Fin 8192) (hb : b.val = t.val / 32)
    (hs : s.val = t.val % 32 * 256 + r.val) :
    row (iblk m c 0 t) (iblk m c 1 t) (iblk m c 2 t) (iblk m c 3 t) (iblk m c 4 t) (iblk m c 5 t) (iblk m c 6 t) r n = Cert.CrossRefIdeal.Read.val_main_v51 (F := Ideal) (rows m c) (gain m c) (wq m c) (qGain m c) (keys m c) (vals m c) (wo m c) (ix3 b s n) := by
  have h0 := funext fun k => rows_at m c t r k ⟨b.val * 8192 + s.val, by omega⟩ (by show b.val * 8192 + s.val = _; omega)
  have h1 := funext fun k => gain_read m c t k
  have h2 := funext fun k => funext fun n => wq_read m c t k n
  have h3 := funext fun k => qGain_read m c t k
  have h4 := funext fun j => funext fun k => keys_at m c t j k b hb
  have h5 := funext fun j => funext fun k => vals_at m c t j k b hb
  have h6 := funext fun k => funext fun n => wo_read m c t k n
  refine Eq.trans ?_ (ref_mixed (rows m c) (gain m c) (wq m c) (qGain m c) (keys m c) (vals m c) (wo m c) b s n).symm
  exact congr (congr (congr (congr (congr (congr (congr (congrArg mixed h0) h1) h2) h3) h4) h5) h6) rfl

/-- What a grid point leaves in its tile of the first result. -/
theorem tile (c : Dev nD) (t : Fin cfg0.N) (y) :
    out0_8 (iblk m c 0 t) (iblk m c 1 t) (iblk m c 2 t) (iblk m c 3 t) (iblk m c 4 t) (iblk m c 5 t) (iblk m c 6 t) (iblk m c 7 t) y = target m c (((cfg0.win 8).blk t).view.emb y) := by
  have ht : t.val < 64 := t.isLt
  obtain ⟨r, n, rfl⟩ : ∃ (r : Fin 256) (n : Fin 4096), y = ix2 r n := ⟨y 0, y 1, by funext a; fin_cases a <;> rfl⟩
  have e : ((cfg0.win 8).blk t).view.emb (ix2 r n)
      = (ix2 ⟨(⟨t.val / 32, by omega⟩ : Fin 2).val * 8192 + (⟨t.val % 32 * 256 + r.val, by omega⟩ : Fin 8192).val, by
          show t.val / 32 * 8192 + (t.val % 32 * 256 + r.val) < 16384; omega⟩ n : S16384x4096.Idx) := by
    blk_ext [placement t]
  refine (stored _ _ _ _ _ _ _ _ _).trans ?_
  rw [e]
  refine Eq.trans ?_ (ref_rows (rows m c) (gain m c) (wq m c) (qGain m c) (keys m c) (vals m c) (wo m c) _ _ n).symm
  exact row_eq m c t r n _ _ rfl rfl

/-- What a grid point leaves in its tile of the second result. -/
theorem normed_tile (c : Dev nD) (t : Fin cfg0.N) (y) :
    out0_9 (iblk m c 0 t) (iblk m c 1 t) (iblk m c 2 t) (iblk m c 3 t) (iblk m c 4 t) (iblk m c 5 t) (iblk m c 6 t) (iblk m c 7 t) y = normed_target m c (((cfg0.win 9).blk t).view.emb y) := by
  have ht : t.val < 64 := t.isLt
  obtain ⟨r, n, rfl⟩ : ∃ (r : Fin 256) (n : Fin 4096), y = ix2 r n := ⟨y 0, y 1, by funext a; fin_cases a <;> rfl⟩
  have e : ((cfg0.win 9).blk t).view.emb (ix2 r n)
      = (ix2 ⟨(⟨t.val / 32, by omega⟩ : Fin 2).val * 8192 + (⟨t.val % 32 * 256 + r.val, by omega⟩ : Fin 8192).val, by
          show t.val / 32 * 8192 + (t.val % 32 * 256 + r.val) < 16384; omega⟩ n : S16384x4096.Idx) := by
    blk_ext [placement t]
  refine (stored_normed _ _ _ _ _ _ _ _ _).trans ?_
  rw [e]
  refine Eq.trans ?_ (ref_normed (rows m c) (gain m c) (wq m c) (qGain m c) (keys m c) (vals m c) (wo m c) (nextGain m c) _ _ n).symm
  exact congr (congr (congrArg (normed _) (funext fun n => row_eq m c t r n _ _ rfl rfl))
    (funext fun n => nextGain_read m c t n)) rfl

/-- The whole first result. -/
theorem result (c : Dev nD) : (dats m 0 c).arrAt 8 (cfgs 0).N = target m c := by
  refine (dats m 0 c).arrAt_eq_of_covers 8 _ (by decide +kernel) fun t hf y => ?_
  blk_simp; rw [after0_8]
  exact tile m c t y

/-- The whole second result. -/
theorem normed_result (c : Dev nD) : (dats m 0 c).arrAt 9 (cfgs 0).N = normed_target m c := by
  refine (dats m 0 c).arrAt_eq_of_covers 9 _ (by decide +kernel) fun t hf y => ?_
  blk_simp; rw [after0_9]
  exact normed_tile m c t y

end Cert.CrossIdeal.Value

end
-- ==== Proof.SbqkValue.lean ====
/- The stick-breaking queries and keys: every stored piece of a tile is a row of the projection over its root mean square,
   times the gain of its head, and so is the reference. -/
module

public import proofs.«01_k».proof.Proof.Gen.SbqkIdeal.Frame
public import proofs.«01_k».proof.Proof.Gen.SbqkRefIdeal.Run
public import proofs.«01_k».proof.Proof.Gen.SbqkRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SbqkIdeal.Value

open Cert.SbqkIdeal Cert.SbqkIdeal.Gen

variable (m : (ℓ : Loc nD τ sig) → Buf (Elt Ideal) ℓ)

/-- The arguments: the normalised rows, the input weight, the two gains. -/
abbrev rows (c : Dev nD) : FVec Ideal S16384x4096 .bf16 := m ((c : Thread nD τ).loc main_arg0)
abbrev weights (c : Dev nD) : FVec Ideal S4096x14336 .f32 := m ((c : Thread nD τ).loc main_arg1)
abbrev qGain (c : Dev nD) : FVec Ideal S128 .f32 := m ((c : Thread nD τ).loc main_arg2)
abbrev kGain (c : Dev nD) : FVec Ideal S128 .f32 := m ((c : Thread nD τ).loc main_arg3)

/-- The reference's two normalised projections, over the kernel's argument arrays. -/
abbrev target (c : Dev nD) : FVec Ideal Cert.SbqkRefIdeal.S2x32x8192x128 .bf16 :=
  Cert.SbqkRefIdeal.Read.val_main_v41 (F := Ideal) (rows m c) (weights m c) (qGain m c) (kGain m c)

/-- Which block each window holds at a grid point `t = 4 i + j`: row block `i` of the input (eight of them a batch),
    column block `8 + j` of the weight, the queries' gain or the keys', heads `8 j …` of the result. -/
theorem placement : ∀ t : Fin cfg0.N, win0_0.index t = ![t.val / 4, 0]
    ∧ win0_1.index t = ![0, 8 + t.val % 4]
    ∧ win0_2.index t = ![t.val % 4 / 2, 0, 0]
    ∧ win0_3.index t = ![t.val / 32, t.val % 4, t.val / 4 % 8, 0] :=
  (by decide +kernel : ∀ t : Fin grid0.N, _)

/-- Row `r`, lane `d` of head `h` of the product of a row tile and a column tile. -/
def proj (X : FVec Ideal S1024x4096 .bf16) (W : FVec Ideal S4096x1024 .bf16) (h : Fin 8) (r : Fin 1024)
    (d : Fin 128) : EReal :=
  ∑ k : Fin 4096, X (ix2 r k) * W (ix2 k ⟨h.val * 128 + d.val, by omega⟩)

/-- A row over its root mean square, times a gain. -/
def normed (f : Fin 128 → EReal) (g : EReal) (d : Fin 128) : EReal :=
  f d * Ideal.rsqrt (Ideal.div (∑ e : Fin 128, f e * f e) (Ideal.ofBits .f32 0x43000000#32) + Ideal.ofBits .f32 0x358637BD#32) * g

set_option maxHeartbeats 4000000 in
/-- The tile a grid point stores, whichever of its 32 pieces an element lies in. -/
theorem stored (X : FVec Ideal S1024x4096 .bf16) (W : FVec Ideal S4096x1024 .bf16) (G : FVec Ideal S1x1x128 .f32)
    (y : S1x8x1024x128.Idx) :
    out0_3 (F := Ideal) X W G y = normed (proj X W (y 1) (y 2)) (G (ix3 0 0 (y 3))) (y 3) := by
  canon_tiles x h
  all_goals
    open_payloads
    pointwise [normed, proj, k0_pay58, k0_pay59, k0_pay60, k0_pay61, k0_pay62]
    blk_point []

/-- Lane `e` of head `H` of the projection of row `s` of batch `b`. -/
def prod (c : Dev nD) (b : Fin 2) (H : Fin 32) (s : Fin 8192) (e : Fin 128) : EReal :=
  ∑ k : Fin 4096, rows m c (ix2 ⟨b.val * 8192 + s.val, by omega⟩ k)
    * weights m c (ix2 k ⟨8192 + (H.val * 128 + e.val), by omega⟩)

/-- The gain of a head: the queries' heads come first. -/
def gain (c : Dev nD) (H : Fin 32) (d : Fin 128) : EReal :=
  if H.val < 16 then qGain m c (ix1 d) else kGain m c (ix1 d)

set_option maxHeartbeats 1600000 in
/-- The reference's result at a place. -/
theorem target_at (c : Dev nD) (b : Fin 2) (H : Fin 32) (s : Fin 8192) (d : Fin 128) :
    target m c (ix4 b H s d) = normed (prod m c b H s) (gain m c H d) d := by
  unfold gain
  by_cases hH : H.val < 16
  · rw [if_pos hH]
    pointwise [target, normed, prod, Cert.SbqkRefIdeal.Read.val_main_v0, Cert.SbqkRefIdeal.Read.val_main_v1, Cert.SbqkRefIdeal.Read.val_main_v2, Cert.SbqkRefIdeal.Read.val_main_v7, Cert.SbqkRefIdeal.Read.val_main_v8, Cert.SbqkRefIdeal.Read.val_main_v10, Cert.SbqkRefIdeal.Read.val_main_v11, Cert.SbqkRefIdeal.Read.val_main_v12, Cert.SbqkRefIdeal.Read.val_main_v13, Cert.SbqkRefIdeal.Read.val_main_v14, Cert.SbqkRefIdeal.Read.val_main_v15, Cert.SbqkRefIdeal.Read.val_main_v16, Cert.SbqkRefIdeal.Read.val_main_v17, Cert.SbqkRefIdeal.Read.val_main_v18, Cert.SbqkRefIdeal.Read.val_main_v19, Cert.SbqkRefIdeal.Read.val_main_v20, Cert.SbqkRefIdeal.Read.val_main_v21, Cert.SbqkRefIdeal.Read.val_main_v22, Cert.SbqkRefIdeal.Read.val_main_v23, Cert.SbqkRefIdeal.Read.val_main_v24, Cert.SbqkRefIdeal.Read.val_main_v25, Cert.SbqkRefIdeal.Read.val_main_v26, Cert.SbqkRefIdeal.Read.val_main_v27, Cert.SbqkRefIdeal.Read.val_main_v28, Cert.SbqkRefIdeal.Read.val_main_v29, Cert.SbqkRefIdeal.Read.val_main_v30, Cert.SbqkRefIdeal.Read.val_main_v31, Cert.SbqkRefIdeal.Read.val_main_v32, Cert.SbqkRefIdeal.Read.val_main_v33, Cert.SbqkRefIdeal.Read.val_main_v34, Cert.SbqkRefIdeal.Read.val_main_v35, Cert.SbqkRefIdeal.Read.val_main_v36, Cert.SbqkRefIdeal.Read.val_main_v37, Cert.SbqkRefIdeal.Read.val_main_v38, Cert.SbqkRefIdeal.Read.val_main_v39, Cert.SbqkRefIdeal.Read.val_main_v40, Cert.SbqkRefIdeal.Read.val_main_v41, Cert.SbqkRefIdeal.Read.val_main_cst, Cert.SbqkRefIdeal.Read.val_main_cst_0, Cert.SbqkRefIdeal.Read.val_main_cst_1, Cert.SbqkRefIdeal.Read.val_main_cst_2, Cert.SbqkRefIdeal.Read.val_main_cst_3, Cert.SbqkRefIdeal.Read.val_main_cst_4]
    rw [dif_pos hH]
  · rw [if_neg hH]
    pointwise [target, normed, prod, Cert.SbqkRefIdeal.Read.val_main_v0, Cert.SbqkRefIdeal.Read.val_main_v1, Cert.SbqkRefIdeal.Read.val_main_v2, Cert.SbqkRefIdeal.Read.val_main_v7, Cert.SbqkRefIdeal.Read.val_main_v8, Cert.SbqkRefIdeal.Read.val_main_v10, Cert.SbqkRefIdeal.Read.val_main_v11, Cert.SbqkRefIdeal.Read.val_main_v12, Cert.SbqkRefIdeal.Read.val_main_v13, Cert.SbqkRefIdeal.Read.val_main_v14, Cert.SbqkRefIdeal.Read.val_main_v15, Cert.SbqkRefIdeal.Read.val_main_v16, Cert.SbqkRefIdeal.Read.val_main_v17, Cert.SbqkRefIdeal.Read.val_main_v18, Cert.SbqkRefIdeal.Read.val_main_v19, Cert.SbqkRefIdeal.Read.val_main_v20, Cert.SbqkRefIdeal.Read.val_main_v21, Cert.SbqkRefIdeal.Read.val_main_v22, Cert.SbqkRefIdeal.Read.val_main_v23, Cert.SbqkRefIdeal.Read.val_main_v24, Cert.SbqkRefIdeal.Read.val_main_v25, Cert.SbqkRefIdeal.Read.val_main_v26, Cert.SbqkRefIdeal.Read.val_main_v27, Cert.SbqkRefIdeal.Read.val_main_v28, Cert.SbqkRefIdeal.Read.val_main_v29, Cert.SbqkRefIdeal.Read.val_main_v30, Cert.SbqkRefIdeal.Read.val_main_v31, Cert.SbqkRefIdeal.Read.val_main_v32, Cert.SbqkRefIdeal.Read.val_main_v33, Cert.SbqkRefIdeal.Read.val_main_v34, Cert.SbqkRefIdeal.Read.val_main_v35, Cert.SbqkRefIdeal.Read.val_main_v36, Cert.SbqkRefIdeal.Read.val_main_v37, Cert.SbqkRefIdeal.Read.val_main_v38, Cert.SbqkRefIdeal.Read.val_main_v39, Cert.SbqkRefIdeal.Read.val_main_v40, Cert.SbqkRefIdeal.Read.val_main_v41, Cert.SbqkRefIdeal.Read.val_main_cst, Cert.SbqkRefIdeal.Read.val_main_cst_0, Cert.SbqkRefIdeal.Read.val_main_cst_1, Cert.SbqkRefIdeal.Read.val_main_cst_2, Cert.SbqkRefIdeal.Read.val_main_cst_3, Cert.SbqkRefIdeal.Read.val_main_cst_4]
    rw [dif_neg hH]
    blk_point []

/-- The gain a grid point holds. -/
theorem gain_eq (c : Dev nD) (t : Fin cfg0.N) (H : Fin 32) (hH : H.val / 16 = t.val % 4 / 2) (d : Fin 128) :
    iblk m c 2 t (ix3 0 0 d) = gain m c H d := by
  have e : ((cfg0.win 2).blk t).view.emb (ix3 0 0 d) = (ix3 ⟨t.val % 4 / 2, by omega⟩ 0 d : S2x1x128.Idx) := by
    blk_ext [placement t]
  refine (show iblk m c 2 t (ix3 0 0 d) = V m c main_v3 (ix3 ⟨t.val % 4 / 2, by omega⟩ 0 d) from
    congrArg (V m c main_v3) e).trans ?_
  entry_read
  unfold gain
  by_cases h : H.val < 16
  · rw [if_pos h]
    pointwise []
    rw [dif_pos (by omega)]
  · rw [if_neg h]
    pointwise []
    rw [dif_neg (by omega)]

/-- The projection a grid point computes. -/
theorem proj_eq (c : Dev nD) (t : Fin cfg0.N) (h : Fin 8) (r : Fin 1024) (e : Fin 128) (b : Fin 2) (H : Fin 32) (s : Fin 8192)
    (hb : b.val = t.val / 32) (hH : H.val = t.val % 4 * 8 + h.val) (hs : s.val = t.val / 4 % 8 * 1024 + r.val) :
    proj (iblk m c 0 t) (iblk m c 1 t) h r e = prod m c b H s e := by
  unfold proj prod
  blk_point [iblk, V, placement t, hb, hH, hs]

/-- What a grid point leaves in its tile of the result, element by element. -/
theorem tile (c : Dev nD) (t : Fin cfg0.N) (y) :
    out0_3 (iblk m c 0 t) (iblk m c 1 t) (iblk m c 2 t) y = target m c (((cfg0.win 3).blk t).view.emb y) := by
  have ht : t.val < 64 := t.isLt
  obtain ⟨z, h, r, d, rfl⟩ : ∃ (z : Fin 1) (h : Fin 8) (r : Fin 1024) (d : Fin 128), y = ix4 z h r d :=
    ⟨y 0, y 1, y 2, y 3, by funext a; fin_cases a <;> rfl⟩
  have e : ((cfg0.win 3).blk t).view.emb (ix4 z h r d)
      = (ix4 ⟨t.val / 32, by omega⟩ ⟨t.val % 4 * 8 + h.val, by omega⟩ ⟨t.val / 4 % 8 * 1024 + r.val, by omega⟩ d
        : S2x32x8192x128.Idx) := by
    blk_ext [placement t]
  refine (stored _ _ _ _).trans ?_
  rw [e]
  refine Eq.trans ?_ (target_at m c _ _ _ _).symm
  refine congr (congr (congrArg normed (funext fun e => ?_)) ?_) rfl
  · exact proj_eq m c t h r e _ _ _ rfl rfl rfl
  · exact gain_eq m c t _ (by show (t.val % 4 * 8 + h.val) / 16 = _; omega) d

/-- The whole result. -/
theorem result (c : Dev nD) : (dats m 0 c).arrAt 3 (cfgs 0).N = target m c := by
  refine (dats m 0 c).arrAt_eq_of_covers 3 _ (by decide +kernel) fun t hf y => ?_
  blk_simp; rw [after0_3]
  exact tile m c t y

end Cert.SbqkIdeal.Value

end
-- ==== Proof.GateValue.lean ====
/- The retention gate's projection: the kernel's tiles are tiles of `xn @ w_in[:, gate]`, one head beside the other,
   and its second result is the output weight, cast. -/
module

public import proofs.«01_k».proof.Proof.Gen.GateIdeal.Frame
public import proofs.«01_k».proof.Proof.Gen.GateRefIdeal.Run
public import proofs.«01_k».proof.Proof.Gen.GateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Value

open Cert.GateIdeal Cert.GateIdeal.Gen

variable (m : (ℓ : Loc nD τ sig) → Buf (Elt Ideal) ℓ)

/-- The reference's gate, over the kernel's argument arrays. -/
abbrev target (c : Dev nD) : FVec Ideal Cert.GateRefIdeal.S2x16x8192x128 .f32 :=
  Cert.GateRefIdeal.Read.val_main_v11 (F := Ideal) (m ((c : Thread nD τ).loc main_arg0))
    (m ((c : Thread nD τ).loc main_arg1))

/-- The reference's cast of the output weight. -/
abbrev weight (c : Dev nD) : FVec Ideal Cert.GateRefIdeal.S4096x4096 .bf16 :=
  Cert.GateRefIdeal.Read.val_main_v12 (F := Ideal) (m ((c : Thread nD τ).loc main_arg2))

/-- Which block each window holds at a grid point `t = 2 i + j`: row block `i` of the input (eight of them a batch),
    column block `6 + j` of the weight, heads `8 j …` of the gate; the cast goes by rows. -/
theorem placement : ∀ t : Fin cfg0.N, win0_0.index t = ![t.val / 2, 0]
    ∧ win0_1.index t = ![0, 6 + t.val % 2]
    ∧ win0_2.index t = ![t.val, 0]
    ∧ win0_3.index t = ![t.val / 16, t.val % 2, t.val / 2 % 8, 0]
    ∧ win0_4.index t = ![t.val, 0] :=
  (by decide +kernel : ∀ t : Fin grid0.N, _)

/-- One element of the product of a row tile and a column tile: row `r`, head `h` of the tile, lane `d`. -/
def entry (X : FVec Ideal S1024x4096 .bf16) (W : FVec Ideal S4096x1024 .bf16) (h : Fin 8) (r : Fin 1024)
    (d : Fin 128) : EReal :=
  ∑ k : Fin 4096, X (ix2 r k) * W (ix2 k ⟨h.val * 128 + d.val, by omega⟩)

set_option maxHeartbeats 4000000 in
/-- The tile a grid point stores, whichever of its 32 pieces an element lies in. -/
theorem stored (X : FVec Ideal S1024x4096 .bf16) (W : FVec Ideal S4096x1024 .bf16) (Z) (y : S1x8x1024x128.Idx) :
    out0_3 (F := Ideal) X W Z y = entry X W (y 1) (y 2) (y 3) := by
  canon_tiles x h
  all_goals
    open_payloads
    pointwise [entry, k0_pay45]
    blk_point []

set_option maxHeartbeats 1600000 in
/-- What a grid point leaves in its tile of the gate, element by element. -/
theorem tile (c : Dev nD) (t : Fin cfg0.N) (y) :
    out0_3 (iblk m c 0 t) (iblk m c 1 t) (iblk m c 2 t) y = target m c (((cfg0.win 3).blk t).view.emb y) := by
  refine (stored _ _ _ y).trans ?_
  pointwise [entry, target, Cert.GateRefIdeal.Read.val_main_v11, Cert.GateRefIdeal.Read.val_main_v10,
    Cert.GateRefIdeal.Read.val_main_v6, Cert.GateRefIdeal.Read.val_main_v2, Cert.GateRefIdeal.Read.val_main_v1,
    Cert.GateRefIdeal.Read.val_main_v0]
  blk_point [iblk, V, placement t]

/-- What a grid point leaves in its tile of the cast weight. -/
theorem weight_tile (c : Dev nD) (t : Fin cfg0.N) (y) :
    k0_pay5 (iblk m c 2 t) y = weight m c (((cfg0.win 4).blk t).view.emb y) := by
  pointwise [k0_pay5, weight, Cert.GateRefIdeal.Read.val_main_v12]
  blk_point [iblk, V, placement t]

/-- The whole gate. -/
theorem result (c : Dev nD) : (dats m 0 c).arrAt 3 (cfgs 0).N = target m c := by
  refine (dats m 0 c).arrAt_eq_of_covers 3 _ (by decide +kernel) fun t hf y => ?_
  blk_simp; rw [after0_3]
  exact tile m c t y

/-- The whole cast weight. -/
theorem weight_result (c : Dev nD) : (dats m 0 c).arrAt 4 (cfgs 0).N = weight m c := by
  refine (dats m 0 c).arrAt_eq_of_covers 4 _ (by decide +kernel) fun t hf y => ?_
  blk_simp; rw [after0_4]; frame_out
  exact weight_tile m c t y

end Cert.GateIdeal.Value

end
-- ==== Proof.ValValue.lean ====
/- The values' projection: the kernel's tiles are tiles of `xn @ w_in`'s two value column groups, one head beside the
   other, and its second result is the up-projection's weight, cast. -/
module

public import proofs.«01_k».proof.Proof.Gen.ValIdeal.Frame
public import proofs.«01_k».proof.Proof.Gen.ValRefIdeal.Run
public import proofs.«01_k».proof.Proof.Gen.ValRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ValIdeal.Value

open Cert.ValIdeal Cert.ValIdeal.Gen

variable (m : (ℓ : Loc nD τ sig) → Buf (Elt Ideal) ℓ)

/-- The reference's values, over the kernel's argument arrays. -/
abbrev target (c : Dev nD) : FVec Ideal Cert.ValRefIdeal.S2x32x8192x128 .bf16 :=
  Cert.ValRefIdeal.Read.val_main_v15 (F := Ideal) (m ((c : Thread nD τ).loc main_arg0))
    (m ((c : Thread nD τ).loc main_arg1))

/-- The reference's cast of the up-projection's weight. -/
abbrev weight (c : Dev nD) : FVec Ideal Cert.ValRefIdeal.S4096x22016 .bf16 :=
  Cert.ValRefIdeal.Read.val_main_v16 (F := Ideal) (m ((c : Thread nD τ).loc main_arg2))

/-- Which block each window holds at a grid point `t = 4 i + j`: row block `i` of the input (eight of them a batch),
    heads `8 j …` of the values; the cast goes by rows. -/
theorem placement : ∀ t : Fin cfg0.N, win0_0.index t = ![t.val / 4, 0]
    ∧ win0_2.index t = ![t.val, 0]
    ∧ win0_3.index t = ![t.val / 32, t.val % 4, t.val / 4 % 8, 0]
    ∧ win0_4.index t = ![t.val, 0] :=
  (by decide +kernel : ∀ t : Fin grid0.N, _)

/-- The weight's column block at the points of the retention's values. -/
theorem columns_ret : ∀ t : Fin cfg0.N, t.val % 4 < 2 → win0_1.index t = ![0, 4 + t.val % 4] :=
  (by decide +kernel : ∀ t : Fin grid0.N, _)

/-- The weight's column block at the points of the stick-breaking attention's values. -/
theorem columns_sb : ∀ t : Fin cfg0.N, 2 ≤ t.val % 4 → win0_1.index t = ![0, 10 + t.val % 4] :=
  (by decide +kernel : ∀ t : Fin grid0.N, _)

/-- One element of the product of a row tile and a column tile: row `r`, head `h` of the tile, lane `d`. -/
def entry (X : FVec Ideal S1024x4096 .bf16) (W : FVec Ideal S4096x1024 .bf16) (h : Fin 8) (r : Fin 1024)
    (d : Fin 128) : EReal :=
  ∑ k : Fin 4096, X (ix2 r k) * W (ix2 k ⟨h.val * 128 + d.val, by omega⟩)

set_option maxHeartbeats 4000000 in
/-- The tile a grid point stores, whichever of its 32 pieces an element lies in. -/
theorem stored (X : FVec Ideal S1024x4096 .bf16) (W : FVec Ideal S4096x1024 .bf16) (Z) (y : S1x8x1024x128.Idx) :
    out0_3 (F := Ideal) X W Z y = entry X W (y 1) (y 2) (y 3) := by
  canon_tiles x h
  all_goals
    open_payloads
    pointwise [entry, k0_pay44, k0_pay45, k0_pay46, k0_pay47]
    blk_point []

set_option maxHeartbeats 1600000 in
/-- What a grid point leaves in its tile of the values, element by element. -/
theorem tile (c : Dev nD) (t : Fin cfg0.N) (y) :
    out0_3 (iblk m c 0 t) (iblk m c 1 t) (iblk m c 2 t) y = target m c (((cfg0.win 3).blk t).view.emb y) := by
  refine (stored _ _ _ y).trans ?_
  pointwise [entry, target, Cert.ValRefIdeal.Read.val_main_v15, Cert.ValRefIdeal.Read.val_main_v14,
    Cert.ValRefIdeal.Read.val_main_v13, Cert.ValRefIdeal.Read.val_main_v12, Cert.ValRefIdeal.Read.val_main_v11,
    Cert.ValRefIdeal.Read.val_main_v10, Cert.ValRefIdeal.Read.val_main_v9, Cert.ValRefIdeal.Read.val_main_v5,
    Cert.ValRefIdeal.Read.val_main_v2, Cert.ValRefIdeal.Read.val_main_v1, Cert.ValRefIdeal.Read.val_main_v0]
  rcases Nat.lt_or_ge (t.val % 4) 2 with ht | ht
  · rw [dif_pos]
    · blk_point [iblk, V, placement t, columns_ret t ht]
    · have hy : (y 1).val < 8 := (y 1).isLt
      blk_simp [placement t]; omega
  · rw [dif_neg]
    · blk_point [iblk, V, placement t, columns_sb t ht]
    · have hy : (y 1).val < 8 := (y 1).isLt
      blk_simp [placement t]; omega

/-- What a grid point leaves in its tile of the cast weight. -/
theorem weight_tile (c : Dev nD) (t : Fin cfg0.N) (y) :
    k0_pay2 (iblk m c 2 t) y = weight m c (((cfg0.win 4).blk t).view.emb y) := by
  pointwise [k0_pay2, weight, Cert.ValRefIdeal.Read.val_main_v16]
  blk_point [iblk, V, placement t]

/-- The whole of the values. -/
theorem result (c : Dev nD) : (dats m 0 c).arrAt 3 (cfgs 0).N = target m c := by
  refine (dats m 0 c).arrAt_eq_of_covers 3 _ (by decide +kernel) fun t hf y => ?_
  blk_simp; rw [after0_3]
  exact tile m c t y

/-- The whole cast weight. -/
theorem weight_result (c : Dev nD) : (dats m 0 c).arrAt 4 (cfgs 0).N = weight m c := by
  refine (dats m 0 c).arrAt_eq_of_covers 4 _ (by decide +kernel) fun t hf y => ?_
  blk_simp; rw [after0_4]; frame_out
  exact weight_tile m c t y

end Cert.ValIdeal.Value

end
-- ==== Proof.QkValue.lean ====
/- The rotary queries and keys of the retention: the kernel's tiles, rotated by a roll of the lanes against two tables,
   are tiles of the reference's, rotated half against half. -/
module

public import proofs.«01_k».proof.Proof.Gen.QkIdeal.Frame
public import proofs.«01_k».proof.Proof.Gen.QkRefIdeal.Run
public import proofs.«01_k».proof.Proof.Gen.QkRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkIdeal.Value

open Cert.QkIdeal Cert.QkIdeal.Gen

variable (m : (ℓ : Loc nD τ sig) → Buf (Elt Ideal) ℓ)

/-- The arguments: the normalised rows and the input weight. -/
abbrev rows (c : Dev nD) : FVec Ideal S16384x4096 .bf16 := m ((c : Thread nD τ).loc main_arg0)
abbrev weights (c : Dev nD) : FVec Ideal S4096x14336 .f32 := m ((c : Thread nD τ).loc main_arg1)

/-- The reference's rotated queries and keys, over the kernel's argument arrays. -/
abbrev target (c : Dev nD) : FVec Ideal Cert.QkRefIdeal.S2x32x8192x128 .f32 :=
  Cert.QkRefIdeal.Read.val_main_v58 (F := Ideal) (rows m c) (weights m c)

/-- Which block each window holds at a grid point `t = 4 i + j`: row block `i` of the input (eight of them a batch),
    column block `j` of the weight, the row block's part of either table, heads `8 j …` of the result. -/
theorem placement : ∀ t : Fin cfg0.N, win0_0.index t = ![t.val / 4, 0]
    ∧ win0_1.index t = ![0, t.val % 4]
    ∧ win0_2.index t = ![t.val / 4 % 8, 0]
    ∧ win0_3.index t = ![t.val / 4 % 8, 0]
    ∧ win0_4.index t = ![t.val / 32, t.val % 4, t.val / 4 % 8, 0] :=
  (by decide +kernel : ∀ t : Fin grid0.N, _)

/-- Row `r`, lane `d` of head `h` of the product of a row tile and a column tile. -/
def proj (X : FVec Ideal S1024x4096 .bf16) (W : FVec Ideal S4096x1024 .bf16) (h : Fin 8) (r : Fin 1024)
    (d : Fin 128) : EReal :=
  ∑ k : Fin 4096, X (ix2 r k) * W (ix2 k ⟨h.val * 128 + d.val, by omega⟩)

/-- A row rotated: each lane against one table, the lane half a turn away against the other, all scaled. -/
def rotated (f : Fin 128 → EReal) (C S z : EReal) (d : Fin 128) : EReal :=
  (f d * C + f ⟨(d.val + 64) % 128, by omega⟩ * S) * z

set_option maxHeartbeats 4000000 in
/-- The tile a grid point stores, whichever of its 32 pieces an element lies in. -/
theorem stored (i : grid0.Coords) (X : FVec Ideal S1024x4096 .bf16) (W : FVec Ideal S4096x1024 .bf16)
    (C S : FVec Ideal S1024x128 .f32) (y : S1x8x1024x128.Idx) :
    out0_4 (F := Ideal) i X W C S y
      = rotated (proj X W (y 1) (y 2)) (C (ix2 (y 2) (y 3))) (S (ix2 (y 2) (y 3))) (k0_pay3 (F := Ideal) i) (y 3) := by
  canon_tiles x h
  all_goals
    open_payloads
    pointwise [rotated, proj, k0_pay54, k0_pay55, k0_pay56, k0_pay57]
    blk_point []

/-- The tables the kernel is given: the reference's, lane half by lane half. -/
theorem cos_table (c : Dev nD) : V m c main_v12
    = (concatenate S8192x128 1 [⟨S8192x64, Cert.QkRefIdeal.Read.val_main_v20 (F := Ideal)⟩,
        ⟨S8192x64, Cert.QkRefIdeal.Read.val_main_v20 (F := Ideal)⟩] concatenates_S8192x64_S8192x64_S8192x128_d1
        : FVec Ideal S8192x128 .f32) := by
  simp only [V, hostOps0, hostOps0_1, hostOps0_2, List.flatten_cons, List.flatten_nil, List.append_nil, List.cons_append,
    List.nil_append, StableHlo.TRef.binary, StableHlo.TRef.nullary, StableHlo.TRef.reshape, StableHlo.TRef.unary,
    StableHlo.TRef.toBuf, StableHlo.TRef.ofBuf, cast_eq]
  after_results_simp
  rfl

theorem sin_table (c : Dev nD) : V m c main_v14
    = (concatenate S8192x128 1 [⟨S8192x64, Host.negf (Cert.QkRefIdeal.Read.val_main_v21 (F := Ideal))⟩,
        ⟨S8192x64, Cert.QkRefIdeal.Read.val_main_v21 (F := Ideal)⟩] concatenates_S8192x64_S8192x64_S8192x128_d1
        : FVec Ideal S8192x128 .f32) := by
  simp only [V, hostOps0, hostOps0_1, hostOps0_2, List.flatten_cons, List.flatten_nil, List.append_nil, List.cons_append,
    List.nil_append, StableHlo.TRef.binary, StableHlo.TRef.nullary, StableHlo.TRef.reshape, StableHlo.TRef.unary,
    StableHlo.TRef.toBuf, StableHlo.TRef.ofBuf, cast_eq]
  after_results_simp
  rfl

theorem weight_cast (c : Dev nD) : V m c main_v15 = (truncf .bf16 (weights m c) bitsLt_bf16_f32) := by
  simp only [V, hostOps0, hostOps0_1, hostOps0_2, List.flatten_cons, List.flatten_nil, List.append_nil, List.cons_append,
    List.nil_append, StableHlo.TRef.binary, StableHlo.TRef.nullary, StableHlo.TRef.reshape, StableHlo.TRef.unary,
    StableHlo.TRef.toBuf, StableHlo.TRef.ofBuf, cast_eq]
  after_results_simp

/-- Lane `e` of head `H` of the projection of row `s` of batch `b`. -/
def prod (c : Dev nD) (b : Fin 2) (H : Fin 32) (s : Fin 8192) (e : Fin 128) : EReal :=
  ∑ k : Fin 4096, rows m c (ix2 ⟨b.val * 8192 + s.val, by omega⟩ k) * weights m c (ix2 k ⟨H.val * 128 + e.val, by omega⟩)

/-- The reference's angles' cosines and sines: position, frequency. -/
abbrev cosine : FVec Ideal Cert.QkRefIdeal.S8192x64 .f32 := Cert.QkRefIdeal.Read.val_main_v20 (F := Ideal)
abbrev sine : FVec Ideal Cert.QkRefIdeal.S8192x64 .f32 := Cert.QkRefIdeal.Read.val_main_v21 (F := Ideal)

/-- The reference's rotation of a row: half against half. -/
def turned (f : Fin 128 → EReal) (s : Fin 8192) (d : Fin 128) : EReal :=
  if h : d.val < 64 then f ⟨d.val, by omega⟩ * cosine (ix2 s ⟨d.val, h⟩) - f ⟨64 + d.val, by omega⟩ * sine (ix2 s ⟨d.val, h⟩)
  else f ⟨64 + (d.val - 64), by omega⟩ * cosine (ix2 s ⟨d.val - 64, by omega⟩)
    + f ⟨d.val - 64, by omega⟩ * sine (ix2 s ⟨d.val - 64, by omega⟩)

set_option maxHeartbeats 1600000 in
/-- The reference's result at a place. -/
theorem target_at (c : Dev nD) (b : Fin 2) (H : Fin 32) (s : Fin 8192) (d : Fin 128) :
    target m c (ix4 b H s d)
      = turned (prod m c b H s) s d * (if H.val < 16 then Ideal.ofBits .f32 0x3DB504F3#32 else 1) := by
  by_cases hH : H.val < 16
  · rw [if_pos hH]
    pointwise [target, turned, prod, Cert.QkRefIdeal.Read.val_main_v0, Cert.QkRefIdeal.Read.val_main_v1, Cert.QkRefIdeal.Read.val_main_v2, Cert.QkRefIdeal.Read.val_main_v3, Cert.QkRefIdeal.Read.val_main_v4, Cert.QkRefIdeal.Read.val_main_v22, Cert.QkRefIdeal.Read.val_main_v23, Cert.QkRefIdeal.Read.val_main_v24, Cert.QkRefIdeal.Read.val_main_v25, Cert.QkRefIdeal.Read.val_main_v26, Cert.QkRefIdeal.Read.val_main_v27, Cert.QkRefIdeal.Read.val_main_v28, Cert.QkRefIdeal.Read.val_main_v29, Cert.QkRefIdeal.Read.val_main_v30, Cert.QkRefIdeal.Read.val_main_v31, Cert.QkRefIdeal.Read.val_main_v32, Cert.QkRefIdeal.Read.val_main_v33, Cert.QkRefIdeal.Read.val_main_v34, Cert.QkRefIdeal.Read.val_main_v35, Cert.QkRefIdeal.Read.val_main_v36, Cert.QkRefIdeal.Read.val_main_v37, Cert.QkRefIdeal.Read.val_main_v38, Cert.QkRefIdeal.Read.val_main_v39, Cert.QkRefIdeal.Read.val_main_v40, Cert.QkRefIdeal.Read.val_main_v41, Cert.QkRefIdeal.Read.val_main_v42, Cert.QkRefIdeal.Read.val_main_v43, Cert.QkRefIdeal.Read.val_main_v44, Cert.QkRefIdeal.Read.val_main_v45, Cert.QkRefIdeal.Read.val_main_v46, Cert.QkRefIdeal.Read.val_main_v47, Cert.QkRefIdeal.Read.val_main_v48, Cert.QkRefIdeal.Read.val_main_v49, Cert.QkRefIdeal.Read.val_main_v50, Cert.QkRefIdeal.Read.val_main_v51, Cert.QkRefIdeal.Read.val_main_v52, Cert.QkRefIdeal.Read.val_main_v53, Cert.QkRefIdeal.Read.val_main_v54, Cert.QkRefIdeal.Read.val_main_v55, Cert.QkRefIdeal.Read.val_main_v56, Cert.QkRefIdeal.Read.val_main_v57, Cert.QkRefIdeal.Read.val_main_v58, Cert.QkRefIdeal.Read.val_main_cst_2]
    rw [dif_pos hH]
  · rw [if_neg hH, mul_one]
    pointwise [target, turned, prod, Cert.QkRefIdeal.Read.val_main_v0, Cert.QkRefIdeal.Read.val_main_v1, Cert.QkRefIdeal.Read.val_main_v2, Cert.QkRefIdeal.Read.val_main_v3, Cert.QkRefIdeal.Read.val_main_v4, Cert.QkRefIdeal.Read.val_main_v22, Cert.QkRefIdeal.Read.val_main_v23, Cert.QkRefIdeal.Read.val_main_v24, Cert.QkRefIdeal.Read.val_main_v25, Cert.QkRefIdeal.Read.val_main_v26, Cert.QkRefIdeal.Read.val_main_v27, Cert.QkRefIdeal.Read.val_main_v28, Cert.QkRefIdeal.Read.val_main_v29, Cert.QkRefIdeal.Read.val_main_v30, Cert.QkRefIdeal.Read.val_main_v31, Cert.QkRefIdeal.Read.val_main_v32, Cert.QkRefIdeal.Read.val_main_v33, Cert.QkRefIdeal.Read.val_main_v34, Cert.QkRefIdeal.Read.val_main_v35, Cert.QkRefIdeal.Read.val_main_v36, Cert.QkRefIdeal.Read.val_main_v37, Cert.QkRefIdeal.Read.val_main_v38, Cert.QkRefIdeal.Read.val_main_v39, Cert.QkRefIdeal.Read.val_main_v40, Cert.QkRefIdeal.Read.val_main_v41, Cert.QkRefIdeal.Read.val_main_v42, Cert.QkRefIdeal.Read.val_main_v43, Cert.QkRefIdeal.Read.val_main_v44, Cert.QkRefIdeal.Read.val_main_v45, Cert.QkRefIdeal.Read.val_main_v46, Cert.QkRefIdeal.Read.val_main_v47, Cert.QkRefIdeal.Read.val_main_v48, Cert.QkRefIdeal.Read.val_main_v49, Cert.QkRefIdeal.Read.val_main_v50, Cert.QkRefIdeal.Read.val_main_v51, Cert.QkRefIdeal.Read.val_main_v52, Cert.QkRefIdeal.Read.val_main_v53, Cert.QkRefIdeal.Read.val_main_v54, Cert.QkRefIdeal.Read.val_main_v55, Cert.QkRefIdeal.Read.val_main_v56, Cert.QkRefIdeal.Read.val_main_v57, Cert.QkRefIdeal.Read.val_main_v58, Cert.QkRefIdeal.Read.val_main_cst_2]
    rw [dif_neg hH]
    blk_point []

/-- The lanes of the tables a grid point holds. -/
theorem cos_lane (c : Dev nD) (t : Fin cfg0.N) (r : Fin 1024) (d : Fin 128) (s : Fin 8192)
    (hs : s.val = t.val / 4 % 8 * 1024 + r.val) :
    iblk m c 2 t (ix2 r d) = if h : d.val < 64 then cosine (ix2 s ⟨d.val, h⟩) else cosine (ix2 s ⟨d.val - 64, by omega⟩) := by
  have e : ((cfg0.win 2).blk t).view.emb (ix2 r d) = (ix2 s d : S8192x128.Idx) := by
    blk_ext [placement t, hs]
  refine (show iblk m c 2 t (ix2 r d) = V m c main_v12 (ix2 s d) from congrArg (V m c main_v12) e).trans ?_
  rw [cos_table]
  pointwise []

theorem sin_lane (c : Dev nD) (t : Fin cfg0.N) (r : Fin 1024) (d : Fin 128) (s : Fin 8192)
    (hs : s.val = t.val / 4 % 8 * 1024 + r.val) :
    iblk m c 3 t (ix2 r d) = if h : d.val < 64 then -sine (ix2 s ⟨d.val, h⟩) else sine (ix2 s ⟨d.val - 64, by omega⟩) := by
  have e : ((cfg0.win 3).blk t).view.emb (ix2 r d) = (ix2 s d : S8192x128.Idx) := by
    blk_ext [placement t, hs]
  refine (show iblk m c 3 t (ix2 r d) = V m c main_v14 (ix2 s d) from congrArg (V m c main_v14) e).trans ?_
  rw [sin_table]
  pointwise []

/-- The kernel's rotation is the reference's. -/
theorem rotated_eq (f : Fin 128 → EReal) (s : Fin 8192) (z : EReal) (d : Fin 128) :
    rotated f (if h : d.val < 64 then cosine (ix2 s ⟨d.val, h⟩) else cosine (ix2 s ⟨d.val - 64, by omega⟩))
      (if h : d.val < 64 then -sine (ix2 s ⟨d.val, h⟩) else sine (ix2 s ⟨d.val - 64, by omega⟩)) z d = turned f s d * z := by
  unfold rotated turned
  by_cases h : d.val < 64
  · have e : (⟨(d.val + 64) % 128, by omega⟩ : Fin 128) = ⟨64 + d.val, by omega⟩ := Fin.ext (by show (d.val + 64) % 128 = 64 + d.val; omega)
    rw [dif_pos h, dif_pos h, dif_pos h, e, mul_neg, ← sub_eq_add_neg]
  · have e : (⟨(d.val + 64) % 128, by omega⟩ : Fin 128) = ⟨d.val - 64, by omega⟩ := Fin.ext (by show (d.val + 64) % 128 = d.val - 64; omega)
    have e' : (⟨64 + (d.val - 64), by omega⟩ : Fin 128) = d := Fin.ext (by show 64 + (d.val - 64) = d.val; omega)
    rw [dif_neg h, dif_neg h, dif_neg h, e, e']

/-- The projection a grid point computes. -/
theorem proj_eq (c : Dev nD) (t : Fin cfg0.N) (h : Fin 8) (r : Fin 1024) (e : Fin 128) (b : Fin 2) (H : Fin 32) (s : Fin 8192)
    (hb : b.val = t.val / 32) (hH : H.val = t.val % 4 * 8 + h.val) (hs : s.val = t.val / 4 % 8 * 1024 + r.val) :
    proj (iblk m c 0 t) (iblk m c 1 t) h r e = prod m c b H s e := by
  have w (k : Fin 4096) : iblk m c 1 t (ix2 k ⟨h.val * 128 + e.val, by omega⟩)
      = weights m c (ix2 k ⟨H.val * 128 + e.val, by omega⟩) := by
    have e : ((cfg0.win 1).blk t).view.emb (ix2 k ⟨h.val * 128 + e.val, by omega⟩)
        = (ix2 k ⟨H.val * 128 + e.val, by omega⟩ : S4096x14336.Idx) := by
      blk_ext [placement t, hH]
    exact (congrArg (V m c main_v15) e).trans (congrFun (weight_cast m c) _)
  unfold proj prod
  simp only [w]
  blk_point [iblk, V, placement t, hb, hs]

/-- The scale of a grid point: the queries' column blocks come first. -/
theorem scale_eq (t : Fin cfg0.N) : k0_pay3 (F := Ideal) (grid0.coords t)
    = if t.val % 4 < 2 then Ideal.ofBits .f32 0x3DB504F3#32 else 1 := by
  have e : ∀ t : Fin cfg0.N, Scalar.cmpi .slt (BitVec.ofNat 32 (grid0.coords t 1).val) 2#32 = if t.val % 4 < 2 then 1#1 else 0#1 :=
    (by decide +kernel : ∀ t : Fin grid0.N, _)
  unfold k0_pay3
  dsimp only
  rw [e t]
  by_cases h : t.val % 4 < 2
  · rw [if_pos h, if_pos h]; rfl
  · rw [if_neg h, if_neg h]
    pointwise []

/-- What a grid point leaves in its tile of the result, element by element. -/
theorem tile (c : Dev nD) (t : Fin cfg0.N) (y) :
    out0_4 (grid0.coords t) (iblk m c 0 t) (iblk m c 1 t) (iblk m c 2 t) (iblk m c 3 t) y
      = target m c (((cfg0.win 4).blk t).view.emb y) := by
  have ht : t.val < 64 := t.isLt
  obtain ⟨z, h, r, d, rfl⟩ : ∃ (z : Fin 1) (h : Fin 8) (r : Fin 1024) (d : Fin 128), y = ix4 z h r d :=
    ⟨y 0, y 1, y 2, y 3, by funext a; fin_cases a <;> rfl⟩
  have e : ((cfg0.win 4).blk t).view.emb (ix4 z h r d)
      = (ix4 ⟨t.val / 32, by omega⟩ ⟨t.val % 4 * 8 + h.val, by omega⟩ ⟨t.val / 4 % 8 * 1024 + r.val, by omega⟩ d
        : S2x32x8192x128.Idx) := by
    blk_ext [placement t]
  refine (stored _ _ _ _ _ _).trans ?_
  rw [e]
  refine Eq.trans ?_ (target_at m c _ _ _ _).symm
  refine Eq.trans ?_ (rotated_eq _ _ _ _)
  refine congr (congr (congr (congr (congrArg rotated (funext fun e => ?_)) ?_) ?_) ?_) rfl
  · exact proj_eq m c t h r e _ _ _ rfl rfl rfl
  · exact cos_lane m c t r d _ rfl
  · exact sin_lane m c t r d _ rfl
  · rw [scale_eq t]
    by_cases hj : t.val % 4 < 2
    · rw [if_pos hj, if_pos (by show t.val % 4 * 8 + h.val < 16; omega)]
    · rw [if_neg hj, if_neg (by show ¬ t.val % 4 * 8 + h.val < 16; omega)]

/-- The whole result. -/
theorem result (c : Dev nD) : (dats m 0 c).arrAt 4 (cfgs 0).N = target m c := by
  refine (dats m 0 c).arrAt_eq_of_covers 4 _ (by decide +kernel) fun t hf y => ?_
  blk_simp; rw [after0_4]
  exact tile m c t y

end Cert.QkIdeal.Value

end
-- ==== Proof.OutValue.lean ====
/- The mixers' output projection: every tile of the result is a tile of `x + [ret | sb] @ w_out`. -/
module

public import proofs.«01_k».proof.Proof.Gen.OutIdeal.Frame
public import proofs.«01_k».proof.Proof.Gen.OutRefIdeal.Run
public import proofs.«01_k».proof.Proof.Gen.OutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutIdeal.Value

open Cert.OutIdeal Cert.OutIdeal.Gen

variable (m : (ℓ : Loc nD τ sig) → Buf (Elt Ideal) ℓ)

/-- The reference's last stage, over the kernel's argument arrays. -/
abbrev target (c : Dev nD) : FVec Ideal Cert.OutRefIdeal.S16384x4096 .f32 :=
  Cert.OutRefIdeal.Read.val_main_v5 (F := Ideal) (m ((c : Thread nD τ).loc main_arg0))
    (m ((c : Thread nD τ).loc main_arg1)) (m ((c : Thread nD τ).loc main_arg2)) (m ((c : Thread nD τ).loc main_arg3))

/-- Which block each window holds at a grid point: rows go by `t / 4`, columns by `t % 4`; windows 2 and 3 are the upper
    and the lower half of the weight's rows. -/
theorem placement : ∀ t : Fin cfg0.N, win0_0.index t = ![t.val / 4, 0]
    ∧ win0_1.index t = ![t.val / 4, 0]
    ∧ win0_2.index t = ![0, t.val % 4]
    ∧ win0_3.index t = ![1, t.val % 4]
    ∧ win0_4.index t = ![t.val / 4, t.val % 4]
    ∧ win0_5.index t = ![t.val / 4, t.val % 4] :=
  (by decide +kernel : ∀ t : Fin grid0.N, _)

set_option maxHeartbeats 1600000 in
/-- What a grid point leaves in its tile, element by element; a point stores the tile in pieces. -/
theorem tile (c : Dev nD) (t : Fin cfg0.N) (y) :
    out0_5 (iblk m c 0 t) (iblk m c 1 t) (iblk m c 2 t) (iblk m c 3 t) (iblk m c 4 t) y
      = target m c (((cfg0.win 5).blk t).view.emb y) := by
  canon_tiles x h
  all_goals
    open_payloads
    pointwise [target, Cert.OutRefIdeal.Read.val_main_v5, Cert.OutRefIdeal.Read.val_main_v4,
      Cert.OutRefIdeal.Read.val_main_v3, Cert.OutRefIdeal.Read.val_main_v2, Cert.OutRefIdeal.Read.val_main_v1,
      Cert.OutRefIdeal.Read.val_main_v0]
    blk_point [iblk, V, placement t]

/-- The whole result. -/
theorem result (c : Dev nD) : (dats m 0 c).arrAt 5 (cfgs 0).N = target m c := by
  refine (dats m 0 c).arrAt_eq_of_covers 5 _ (by decide +kernel) fun t hf y => ?_
  blk_simp; rw [after0_5]
  exact tile m c t y

end Cert.OutIdeal.Value

end
-- ==== Proof.DownValue.lean ====
/- The second feed-forward product: every tile of the result is a tile of `h + act @ w_down`. -/
module

public import proofs.«01_k».proof.Proof.Gen.DownIdeal.Frame
public import proofs.«01_k».proof.Proof.Gen.DownRefIdeal.Run
public import proofs.«01_k».proof.Proof.Gen.DownRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen

variable (m : (ℓ : Loc nD τ sig) → Buf (Elt Ideal) ℓ)

/-- The reference's last stage, over the kernel's argument arrays. -/
abbrev target (c : Dev nD) : FVec Ideal Cert.DownRefIdeal.S16384x4096 .f32 :=
  Cert.DownRefIdeal.Read.val_main_v3 (F := Ideal) (m ((c : Thread nD τ).loc main_arg0))
    (m ((c : Thread nD τ).loc main_arg1)) (m ((c : Thread nD τ).loc main_arg2))

/-- Which block each window holds at a grid point: rows go by `t % 32`, columns by `t / 32`. -/
theorem placement : ∀ t : Fin cfg0.N, win0_0.index t = ![t.val % 32, 0]
    ∧ win0_1.index t = ![0, t.val / 32]
    ∧ win0_2.index t = ![t.val % 32, t.val / 32]
    ∧ win0_3.index t = ![t.val % 32, t.val / 32] :=
  (by decide +kernel : ∀ t : Fin grid0.N, _)

/-- What a grid point leaves in its tile, element by element; a point stores the tile in two pieces. -/
theorem tile (c : Dev nD) (t : Fin cfg0.N) (y) :
    out0_3 (iblk m c 0 t) (iblk m c 1 t) (iblk m c 2 t) y = target m c (((cfg0.win 3).blk t).view.emb y) := by
  canon_tiles x h
  all_goals
    open_payloads
    pointwise [target, Cert.DownRefIdeal.Read.val_main_v3, Cert.DownRefIdeal.Read.val_main_v2,
      Cert.DownRefIdeal.Read.val_main_v1, Cert.DownRefIdeal.Read.val_main_v0]
    blk_point [iblk, V, placement t]

/-- The whole result. -/
theorem result (c : Dev nD) : (dats m 0 c).arrAt 3 (cfgs 0).N = target m c := by
  refine (dats m 0 c).arrAt_eq_of_covers 3 _ (by decide +kernel) fun t hf y => ?_
  blk_simp; rw [after0_3]
  exact tile m c t y

end Cert.DownIdeal.Value

end
-- ==== Proof.MemkvValue.lean ====
/- The memory's keys and values: the kernel's tiles are the reference's, a batch each. -/
module

public import proofs.«01_k».proof.Proof.Gen.MemkvIdeal.Frame
public import proofs.«01_k».proof.Proof.Gen.MemkvRefIdeal.Run
public import proofs.«01_k».proof.Proof.Gen.MemkvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemkvIdeal.Value

open Cert.MemkvIdeal Cert.MemkvIdeal.Gen

variable (m : (ℓ : Loc nD τ sig) → Buf (Elt Ideal) ℓ)

/-- The arguments: the memory's rows, their norm's gain, the weight of keys and values, the keys' gain. -/
abbrev mem (c : Dev nD) : FVec Ideal S2x256x4096 .f32 := m ((c : Thread nD τ).loc main_arg0)
abbrev gain (c : Dev nD) : FVec Ideal S4096 .f32 := m ((c : Thread nD τ).loc main_arg1)
abbrev weights (c : Dev nD) : FVec Ideal S4096x1024 .f32 := m ((c : Thread nD τ).loc main_arg2)
abbrev keyGain (c : Dev nD) : FVec Ideal S128 .f32 := m ((c : Thread nD τ).loc main_arg3)

/-- The reference's keys and values, over the kernel's argument arrays. -/
abbrev target (c : Dev nD) : FVec Ideal Cert.MemkvRefIdeal.S2x256x512 .bf16 :=
  Cert.MemkvRefIdeal.Read.val_main_v31 (F := Ideal) (mem m c) (gain m c) (weights m c) (keyGain m c)
abbrev value_target (c : Dev nD) : FVec Ideal Cert.MemkvRefIdeal.S2x256x512 .bf16 :=
  Cert.MemkvRefIdeal.Read.val_main_v32 (F := Ideal) (mem m c) (gain m c) (weights m c)

/-- Which block each window holds at a grid point `t`: batch `t` of the memory and of the results, the whole of the rest. -/
theorem placement : ∀ t : Fin cfg0.N, win0_0.index t = ![t.val, 0, 0]
    ∧ win0_1.index t = ![0, 0]
    ∧ win0_2.index t = ![0, 0]
    ∧ win0_3.index t = ![0, 0]
    ∧ win0_4.index t = ![t.val, 0, 0]
    ∧ win0_5.index t = ![t.val, 0, 0] :=
  (by decide +kernel : ∀ t : Fin grid0.N, _)

/-- A row over its root mean square (`z` its length), times a gain. -/
def normed {n : ℕ} (z : EReal) (f g : Fin n → EReal) (d : Fin n) : EReal :=
  f d * Ideal.rsqrt (Ideal.div (∑ e : Fin n, f e * f e) z + Ideal.ofBits .f32 0x358637BD#32) * g d

/-- A column of keys or values: a normalised row times a column of the weight. -/
def proj (x g w : Fin 4096 → EReal) : EReal := ∑ k : Fin 4096, normed (Ideal.ofBits .f32 0x45800000#32) x g k * w k

/-- Lane `d` of head `h` of the keys, `q` the row's columns. -/
def key (q : Fin 512 → EReal) (g : Fin 128 → EReal) (h : Fin 4) (d : Fin 128) : EReal :=
  normed (Ideal.ofBits .f32 0x43000000#32) (fun e : Fin 128 => q ⟨h.val * 128 + e.val, by omega⟩) g d

/-- The key at a column, by its head and lane. -/
def keys (q : Fin 512 → EReal) (g : Fin 128 → EReal) (n : Fin 512) : EReal :=
  key q g ⟨n.val / 128, by omega⟩ ⟨n.val % 128, by omega⟩

theorem keys_of (q : Fin 512 → EReal) (g : Fin 128 → EReal) (h : Fin 4) (d : Fin 128) (n : Fin 512)
    (e : n.val = h.val * 128 + d.val) : keys q g n = key q g h d := by
  unfold keys
  have eh : (⟨n.val / 128, by omega⟩ : Fin 4) = h := Fin.ext (by show n.val / 128 = h.val; omega)
  have ed : (⟨n.val % 128, by omega⟩ : Fin 128) = d := Fin.ext (by show n.val % 128 = d.val; omega)
  rw [eh, ed]

/-- The product of the block's normalised rows with the weight. -/
theorem proj_at (x0 : Vec Ideal S1x256x4096 .f32) (x1 : Vec Ideal S1x4096 .f32) (x2 : Vec Ideal S4096x1024 .bf16) (x3 : Vec Ideal S1x128 .f32)
    (r : Fin 256) (n : Fin 1024) :
    k0_pay10 (F := Ideal) x0 x1 x2 x3 (ix2 r n)
      = proj (fun k => x0 (ix3 0 r k)) (fun k => x1 (ix2 0 k)) (fun k => x2 (ix2 k n)) := by
  pointwise [k0_pay10, k0_pay3, proj, normed]

theorem gain_bound (x0 : Vec Ideal S1x256x4096 .f32) (x1 : Vec Ideal S1x4096 .f32) (x2 : Vec Ideal S4096x1024 .bf16) (x3 : Vec Ideal S1x128 .f32)
    (e : Fin 128) : k0_pay11 (F := Ideal) x0 x1 x2 x3 (ix2 0 e) = x3 (ix2 0 e) := by
  pointwise [k0_pay11, k0_pay4]

/-! The four heads, each from the columns it takes. -/

theorem head_0 (x0 : Vec Ideal S1x256x4096 .f32) (x1 : Vec Ideal S1x4096 .f32) (x2 : Vec Ideal S4096x1024 .bf16) (x3 : Vec Ideal S1x128 .f32)
    (r : Fin 256) (d : Fin 128) :
    k0_pay5 (F := Ideal) (View.ld x0 r0_0) (View.ld x1 r0_1) (View.ld x2 r0_2) (View.ld x3 r0_3) (ix3 0 r d)
      = key (fun n => proj (fun k => x0 (ix3 0 r k)) (fun k => x1 (ix2 0 k)) (fun k => x2 (ix2 k ⟨n.val, by omega⟩)))
          (fun e => x3 (ix2 0 e)) 0 d := by
  pointwise [k0_pay5, k0_pay3, k0_pay4, key, proj, normed]

theorem head_1 (Q : FVec Ideal S256x1024 .f32) (G : FVec Ideal S1x128 .f32) (r : Fin 256) (d : Fin 128) :
    k0_pay6 (F := Ideal) Q G (ix3 0 r d) = key (fun n => Q (ix2 r ⟨n.val, by omega⟩)) (fun e => G (ix2 0 e)) 1 d := by
  pointwise [k0_pay6, key, normed]

theorem head_2 (Q : FVec Ideal S256x1024 .f32) (G : FVec Ideal S1x128 .f32) (r : Fin 256) (d : Fin 128) :
    k0_pay7 (F := Ideal) Q G (ix3 0 r d) = key (fun n => Q (ix2 r ⟨n.val, by omega⟩)) (fun e => G (ix2 0 e)) 2 d := by
  pointwise [k0_pay7, key, normed]

theorem head_3 (Q : FVec Ideal S256x1024 .f32) (G : FVec Ideal S1x128 .f32) (r : Fin 256) (d : Fin 128) :
    k0_pay1 (F := Ideal) G (k0_pay8 Q) (k0_pay9 Q) (ix3 0 r d)
      = key (fun n => Q (ix2 r ⟨n.val, by omega⟩)) (fun e => G (ix2 0 e)) 3 d := by
  pointwise [k0_pay1, k0_pay8, k0_pay9, key, normed]

/-- The tile of values a grid point stores. -/
theorem stored_values (x0 : Vec Ideal S1x256x4096 .f32) (x1 : Vec Ideal S1x4096 .f32) (x2 : Vec Ideal S4096x1024 .bf16) (x3 : Vec Ideal S1x128 .f32)
    (r : Fin 256) (n : Fin 512) :
    out0_5 (F := Ideal) x0 x1 x2 x3 (ix3 0 r n)
      = proj (fun k => x0 (ix3 0 r k)) (fun k => x1 (ix2 0 k)) (fun k => x2 (ix2 k ⟨512 + n.val, by omega⟩)) := by
  refine Eq.trans ?_ (proj_at x0 x1 x2 x3 r ⟨512 + n.val, by omega⟩)
  unfold out0_5
  generalize k0_pay10 x0 x1 x2 x3 = Q
  frame_out
  pointwise [k0_pay2]

/-- The tile of keys a grid point stores. -/
theorem stored (x0 : Vec Ideal S1x256x4096 .f32) (x1 : Vec Ideal S1x4096 .f32) (x2 : Vec Ideal S4096x1024 .bf16) (x3 : Vec Ideal S1x128 .f32)
    (y : S1x256x512.Idx) :
    out0_4 (F := Ideal) x0 x1 x2 x3 y
      = keys (fun n => proj (fun k => x0 (ix3 0 (y 1) k)) (fun k => x1 (ix2 0 k)) (fun k => x2 (ix2 k ⟨n.val, by omega⟩)))
          (fun e => x3 (ix2 0 e)) (y 2) := by
  unfold out0_4
  canon_tiles x h
  all_goals
    obtain ⟨z, r, d, rfl⟩ : ∃ (z : Fin 1) (r : Fin 256) (d : Fin 128), x = ix3 z r d :=
      ⟨x 0, x 1, x 2, by funext a; fin_cases a <;> rfl⟩
    obtain rfl : z = 0 := Subsingleton.elim _ _
    have ey : y 1 = r := Fin.ext h1
  · refine (head_3 _ _ r d).trans ?_
    rw [funext fun n : Fin 512 => proj_at x0 x1 x2 x3 r ⟨n.val, by omega⟩, funext fun e => gain_bound x0 x1 x2 x3 e, ← ey]
    exact (keys_of _ _ 3 d _ (by rw [h2]; show _ = 3 * 128 + d.val; show 384 + d.val = _; omega)).symm
  · refine (head_2 _ _ r d).trans ?_
    rw [funext fun n : Fin 512 => proj_at x0 x1 x2 x3 r ⟨n.val, by omega⟩, funext fun e => gain_bound x0 x1 x2 x3 e, ← ey]
    exact (keys_of _ _ 2 d _ (by rw [h2]; show _ = 2 * 128 + d.val; show 256 + d.val = _; omega)).symm
  · refine (head_1 _ _ r d).trans ?_
    rw [funext fun n : Fin 512 => proj_at x0 x1 x2 x3 r ⟨n.val, by omega⟩, funext fun e => gain_bound x0 x1 x2 x3 e, ← ey]
    exact (keys_of _ _ 1 d _ (by rw [h2]; show _ = 1 * 128 + d.val; show 128 + d.val = _; omega)).symm
  · refine (head_0 x0 x1 x2 x3 r d).trans ?_
    rw [← ey]
    exact (keys_of _ _ 0 d _ (by rw [h2]; show d.val = 0 * 128 + d.val; omega)).symm

/-- The reference's product. -/
theorem ref_proj (c : Dev nD) (b : Fin 2) (r : Fin 256) (n : Fin 1024) :
    Cert.MemkvRefIdeal.Read.val_main_v13 (F := Ideal) (mem m c) (gain m c) (weights m c) (ix3 b r n)
      = proj (fun k => mem m c (ix3 b r k)) (fun k => gain m c (ix1 k)) (fun k => weights m c (ix2 k n)) := by
  pointwise [proj, normed, Cert.MemkvRefIdeal.Read.val_main_v0, Cert.MemkvRefIdeal.Read.val_main_v1, Cert.MemkvRefIdeal.Read.val_main_v2, Cert.MemkvRefIdeal.Read.val_main_v3, Cert.MemkvRefIdeal.Read.val_main_v4, Cert.MemkvRefIdeal.Read.val_main_v5, Cert.MemkvRefIdeal.Read.val_main_v6, Cert.MemkvRefIdeal.Read.val_main_v7, Cert.MemkvRefIdeal.Read.val_main_v8, Cert.MemkvRefIdeal.Read.val_main_v9, Cert.MemkvRefIdeal.Read.val_main_v10, Cert.MemkvRefIdeal.Read.val_main_v11, Cert.MemkvRefIdeal.Read.val_main_v12, Cert.MemkvRefIdeal.Read.val_main_v13, Cert.MemkvRefIdeal.Read.val_main_cst, Cert.MemkvRefIdeal.Read.val_main_cst_0, Cert.MemkvRefIdeal.Read.val_main_cst_1]

/-- The reference's values. -/
theorem value_target_at (c : Dev nD) (b : Fin 2) (r : Fin 256) (n : Fin 512) :
    value_target m c (ix3 b r n)
      = proj (fun k => mem m c (ix3 b r k)) (fun k => gain m c (ix1 k)) (fun k => weights m c (ix2 k ⟨512 + n.val, by omega⟩)) := by
  refine Eq.trans ?_ (ref_proj m c b r ⟨512 + n.val, by omega⟩)
  unfold value_target Cert.MemkvRefIdeal.Read.val_main_v32 Cert.MemkvRefIdeal.Read.val_main_v15
  generalize Cert.MemkvRefIdeal.Read.val_main_v13 (F := Ideal) (mem m c) (gain m c) (weights m c) = Q
  pointwise []

/-- The reference's keys. -/
theorem target_at (c : Dev nD) (b : Fin 2) (r : Fin 256) (n : Fin 512) :
    target m c (ix3 b r n)
      = keys (fun n => proj (fun k => mem m c (ix3 b r k)) (fun k => gain m c (ix1 k)) (fun k => weights m c (ix2 k ⟨n.val, by omega⟩)))
          (fun e => keyGain m c (ix1 e)) n := by
  rw [funext fun n : Fin 512 => (ref_proj m c b r ⟨n.val, by omega⟩).symm]
  unfold target Cert.MemkvRefIdeal.Read.val_main_v31 Cert.MemkvRefIdeal.Read.val_main_v30 Cert.MemkvRefIdeal.Read.val_main_v29 Cert.MemkvRefIdeal.Read.val_main_v28 Cert.MemkvRefIdeal.Read.val_main_v27 Cert.MemkvRefIdeal.Read.val_main_v26 Cert.MemkvRefIdeal.Read.val_main_v25 Cert.MemkvRefIdeal.Read.val_main_v24 Cert.MemkvRefIdeal.Read.val_main_v23 Cert.MemkvRefIdeal.Read.val_main_v22 Cert.MemkvRefIdeal.Read.val_main_v21 Cert.MemkvRefIdeal.Read.val_main_v20 Cert.MemkvRefIdeal.Read.val_main_v19 Cert.MemkvRefIdeal.Read.val_main_v18 Cert.MemkvRefIdeal.Read.val_main_v17 Cert.MemkvRefIdeal.Read.val_main_v16 Cert.MemkvRefIdeal.Read.val_main_v14 Cert.MemkvRefIdeal.Read.val_main_cst_2 Cert.MemkvRefIdeal.Read.val_main_cst_3 Cert.MemkvRefIdeal.Read.val_main_cst_4
  generalize Cert.MemkvRefIdeal.Read.val_main_v13 (F := Ideal) (mem m c) (gain m c) (weights m c) = Q
  pointwise [keys, key, normed]
  have hn : (⟨n.val / 128 * 128 + n.val % 128, by omega⟩ : Fin 1024) = ⟨n.val, by omega⟩ :=
    Fin.ext (by show n.val / 128 * 128 + n.val % 128 = n.val; omega)
  rw [hn]

/-! What a grid point holds, of the argument arrays. -/

theorem mem_at (c : Dev nD) (t : Fin cfg0.N) (r : Fin 256) (k : Fin 4096) (b : Fin 2) (hb : b.val = t.val) :
    iblk m c 0 t (ix3 0 r k) = mem m c (ix3 b r k) := by
  blk_point [iblk, V, placement t, hb]

theorem gain_read (c : Dev nD) (t : Fin cfg0.N) (k : Fin 4096) : iblk m c 1 t (ix2 0 k) = gain m c (ix1 k) := by
  have e : ((cfg0.win 1).blk t).view.emb (ix2 0 k) = (ix2 0 k : S1x4096.Idx) := by
    blk_ext [placement t]
  refine (show iblk m c 1 t (ix2 0 k) = V m c main_v1 (ix2 0 k) from congrArg (V m c main_v1) e).trans ?_
  entry_read
  pointwise []

theorem weights_read (c : Dev nD) (t : Fin cfg0.N) (k : Fin 4096) (n : Fin 1024) :
    iblk m c 2 t (ix2 k n) = weights m c (ix2 k n) := by
  have e : ((cfg0.win 2).blk t).view.emb (ix2 k n) = (ix2 k n : S4096x1024.Idx) := by
    blk_ext [placement t]
  refine (show iblk m c 2 t (ix2 k n) = V m c main_v0 (ix2 k n) from congrArg (V m c main_v0) e).trans ?_
  entry_read
  pointwise []

theorem keyGain_read (c : Dev nD) (t : Fin cfg0.N) (k : Fin 128) : iblk m c 3 t (ix2 0 k) = keyGain m c (ix1 k) := by
  have e : ((cfg0.win 3).blk t).view.emb (ix2 0 k) = (ix2 0 k : S1x128.Idx) := by
    blk_ext [placement t]
  refine (show iblk m c 3 t (ix2 0 k) = V m c main_v2 (ix2 0 k) from congrArg (V m c main_v2) e).trans ?_
  entry_read
  pointwise []

/-- The product a grid point computes is the reference's. -/
theorem proj_eq (c : Dev nD) (t : Fin cfg0.N) (r : Fin 256) (n : Fin 1024) (b : Fin 2) (hb : b.val = t.val) :
    proj (fun k => iblk m c 0 t (ix3 0 r k)) (fun k => iblk m c 1 t (ix2 0 k)) (fun k => iblk m c 2 t (ix2 k n))
      = proj (fun k => mem m c (ix3 b r k)) (fun k => gain m c (ix1 k)) (fun k => weights m c (ix2 k n)) :=
  congr (congr (congrArg proj (funext fun k => mem_at m c t r k b hb)) (funext fun k => gain_read m c t k))
    (funext fun k => weights_read m c t k n)

/-- What a grid point leaves in its tile of the keys. -/
theorem tile (c : Dev nD) (t : Fin cfg0.N) (y) :
    out0_4 (iblk m c 0 t) (iblk m c 1 t) (iblk m c 2 t) (iblk m c 3 t) y
      = target m c (((cfg0.win 4).blk t).view.emb y) := by
  have ht : t.val < 2 := t.isLt
  obtain ⟨z, r, n, rfl⟩ : ∃ (z : Fin 1) (r : Fin 256) (n : Fin 512), y = ix3 z r n :=
    ⟨y 0, y 1, y 2, by funext a; fin_cases a <;> rfl⟩
  have e : ((cfg0.win 4).blk t).view.emb (ix3 z r n) = (ix3 ⟨t.val, ht⟩ r n : S2x256x512.Idx) := by
    blk_ext [placement t]
  refine (stored _ _ _ _ _).trans ?_
  rw [e]
  refine Eq.trans ?_ (target_at m c _ r n).symm
  exact congr (congr (congrArg keys (funext fun n => proj_eq m c t r ⟨n.val, by omega⟩ _ rfl))
    (funext fun k => keyGain_read m c t k)) rfl

/-- What a grid point leaves in its tile of the values. -/
theorem value_tile (c : Dev nD) (t : Fin cfg0.N) (y) :
    out0_5 (iblk m c 0 t) (iblk m c 1 t) (iblk m c 2 t) (iblk m c 3 t) y
      = value_target m c (((cfg0.win 5).blk t).view.emb y) := by
  have ht : t.val < 2 := t.isLt
  obtain ⟨z, r, n, rfl⟩ : ∃ (z : Fin 1) (r : Fin 256) (n : Fin 512), y = ix3 z r n :=
    ⟨y 0, y 1, y 2, by funext a; fin_cases a <;> rfl⟩
  obtain rfl : z = 0 := Subsingleton.elim _ _
  have e : ((cfg0.win 5).blk t).view.emb (ix3 0 r n) = (ix3 ⟨t.val, ht⟩ r n : S2x256x512.Idx) := by
    blk_ext [placement t]
  refine (stored_values _ _ _ _ r n).trans ?_
  rw [e]
  refine Eq.trans ?_ (value_target_at m c _ r n).symm
  exact proj_eq m c t r _ _ rfl

/-- All the keys. -/
theorem result (c : Dev nD) : (dats m 0 c).arrAt 4 (cfgs 0).N = target m c := by
  refine (dats m 0 c).arrAt_eq_of_covers 4 _ (by decide +kernel) fun t hf y => ?_
  blk_simp; rw [after0_4]
  exact tile m c t y

/-- All the values. -/
theorem value_result (c : Dev nD) : (dats m 0 c).arrAt 5 (cfgs 0).N = value_target m c := by
  refine (dats m 0 c).arrAt_eq_of_covers 5 _ (by decide +kernel) fun t hf y => ?_
  blk_simp; rw [after0_5]
  exact value_tile m c t y

end Cert.MemkvIdeal.Value

end
-- ==== Proof.NormValue.lean ====
/- The first row norm: the kernel's tiles are tiles of the reference's normalised rows. -/
module

public import proofs.«01_k».proof.Proof.Gen.NormIdeal.Frame
public import proofs.«01_k».proof.Proof.Gen.NormRefIdeal.Run
public import proofs.«01_k».proof.Proof.Gen.NormRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.NormIdeal.Value

open Cert.NormIdeal Cert.NormIdeal.Gen

variable (m : (ℓ : Loc nD τ sig) → Buf (Elt Ideal) ℓ)

/-- The reference's normalised rows, over the kernel's argument arrays. -/
abbrev target (c : Dev nD) : FVec Ideal Cert.NormRefIdeal.S16384x4096 .bf16 :=
  Cert.NormRefIdeal.Read.val_main_v14 (F := Ideal) (m ((c : Thread nD τ).loc main_arg0)) (m ((c : Thread nD τ).loc main_arg1))

/-- Which block each window holds at a grid point `t`: row block `t` of the rows, the whole gain. -/
theorem placement : ∀ t : Fin cfg0.N, win0_0.index t = ![t.val, 0]
    ∧ win0_1.index t = ![0, 0]
    ∧ win0_2.index t = ![t.val, 0] :=
  (by decide +kernel : ∀ t : Fin grid0.N, _)

/-- A row over its root mean square (`z` its length), times a gain. -/
def normed {n : ℕ} (z : EReal) (f g : Fin n → EReal) (d : Fin n) : EReal :=
  f d * Ideal.rsqrt (Ideal.div (∑ e : Fin n, f e * f e) z + Ideal.ofBits .f32 0x358637BD#32) * g d

/-- The tile a grid point stores. -/
theorem stored (X : Vec Ideal S512x4096 .f32) (g : Vec Ideal S1x4096 .f32) (r : Fin 512) (n : Fin 4096) :
    out0_2 (F := Ideal) X g (ix2 r n)
      = normed (Ideal.ofBits .f32 0x45800000#32) (fun k => X (ix2 r k)) (fun k => g (ix2 0 k)) n := by
  frame_out
  pointwise [k0_pay1, normed]

/-- The reference's rows. -/
theorem target_at (c : Dev nD) (b : Fin 2) (s : Fin 8192) (n : Fin 4096) :
    target m c (ix2 ⟨b.val * 8192 + s.val, by omega⟩ n)
      = normed (Ideal.ofBits .f32 0x45800000#32)
          (fun k => (m ((c : Thread nD τ).loc main_arg0) : FVec Ideal S2x8192x4096 .f32) (ix3 b s k))
          (fun k => (m ((c : Thread nD τ).loc main_arg1) : FVec Ideal S4096 .f32) (ix1 k)) n := by
  pointwise [target, normed, Cert.NormRefIdeal.Read.val_main_v0, Cert.NormRefIdeal.Read.val_main_v1, Cert.NormRefIdeal.Read.val_main_v2, Cert.NormRefIdeal.Read.val_main_v3, Cert.NormRefIdeal.Read.val_main_v4, Cert.NormRefIdeal.Read.val_main_v5, Cert.NormRefIdeal.Read.val_main_v6, Cert.NormRefIdeal.Read.val_main_v7, Cert.NormRefIdeal.Read.val_main_v8, Cert.NormRefIdeal.Read.val_main_v9, Cert.NormRefIdeal.Read.val_main_v10, Cert.NormRefIdeal.Read.val_main_v11, Cert.NormRefIdeal.Read.val_main_v12, Cert.NormRefIdeal.Read.val_main_v13, Cert.NormRefIdeal.Read.val_main_v14, Cert.NormRefIdeal.Read.val_main_cst, Cert.NormRefIdeal.Read.val_main_cst_0, Cert.NormRefIdeal.Read.val_main_cst_1]

/-- The rows a grid point holds. -/
theorem rows_at (c : Dev nD) (t : Fin cfg0.N) (r : Fin 512) (k : Fin 4096) (b : Fin 2) (s : Fin 8192) (hb : b.val = t.val / 16)
    (hs : s.val = t.val % 16 * 512 + r.val) :
    iblk m c 0 t (ix2 r k) = (m ((c : Thread nD τ).loc main_arg0) : FVec Ideal S2x8192x4096 .f32) (ix3 b s k) := by
  have e : ((cfg0.win 0).blk t).view.emb (ix2 r k) = (ix2 ⟨b.val * 8192 + s.val, by omega⟩ k : S16384x4096.Idx) := by
    blk_ext [placement t, hb, hs]
  refine (show iblk m c 0 t (ix2 r k) = V m c main_v0 (ix2 ⟨b.val * 8192 + s.val, by omega⟩ k) from
    congrArg (V m c main_v0) e).trans ?_
  entry_read
  pointwise []

/-- The gain a grid point holds. -/
theorem gain_at (c : Dev nD) (t : Fin cfg0.N) (k : Fin 4096) :
    iblk m c 1 t (ix2 0 k) = (m ((c : Thread nD τ).loc main_arg1) : FVec Ideal S4096 .f32) (ix1 k) := by
  have e : ((cfg0.win 1).blk t).view.emb (ix2 0 k) = (ix2 0 k : S1x4096.Idx) := by
    blk_ext [placement t]
  refine (show iblk m c 1 t (ix2 0 k) = V m c main_v1 (ix2 0 k) from congrArg (V m c main_v1) e).trans ?_
  entry_read
  pointwise []

/-- What a grid point leaves in its tile of the result. -/
theorem tile (c : Dev nD) (t : Fin cfg0.N) (y) :
    out0_2 (iblk m c 0 t) (iblk m c 1 t) y = target m c (((cfg0.win 2).blk t).view.emb y) := by
  have ht : t.val < 32 := t.isLt
  obtain ⟨r, n, rfl⟩ : ∃ (r : Fin 512) (n : Fin 4096), y = ix2 r n := ⟨y 0, y 1, by funext a; fin_cases a <;> rfl⟩
  have e : ((cfg0.win 2).blk t).view.emb (ix2 r n)
      = (ix2 ⟨(⟨t.val / 16, by omega⟩ : Fin 2).val * 8192 + (⟨t.val % 16 * 512 + r.val, by omega⟩ : Fin 8192).val, by
          show t.val / 16 * 8192 + (t.val % 16 * 512 + r.val) < 16384; omega⟩ n : S16384x4096.Idx) := by
    blk_ext [placement t]
  refine (stored _ _ r n).trans ?_
  rw [e]
  refine Eq.trans ?_ (target_at m c _ _ n).symm
  exact congr (congr (congrArg (normed _) (funext fun k => rows_at m c t r k _ _ rfl rfl))
    (funext fun k => gain_at m c t k)) rfl

/-- The whole result. -/
theorem result (c : Dev nD) : (dats m 0 c).arrAt 2 (cfgs 0).N = target m c := by
  refine (dats m 0 c).arrAt_eq_of_covers 2 _ (by decide +kernel) fun t hf y => ?_
  blk_simp; rw [after0_2]
  exact tile m c t y

end Cert.NormIdeal.Value

end
-- ==== Proof.RetLoop.lean ====
module
public import proofs.«01_k».proof.Proof.Gen.RetRefIdeal.Run
public import Idealize.ShloMosaic.Lib.Claim

@[expose] public section
noncomputable section

/-! The retention reference's loop leaves alone what it does not carry: a value computed before the loop is still
    there after any number of trips, and the four arguments are still there at the end. -/
namespace Cert.RetRefIdeal.Value
open Idealize.ShloMosaic Idealize.ShloMosaic.StableHlo Cert.RetRefIdeal Cert.RetRefIdeal.Gen

variable {F : FTy → Type} [FloatOps F]
variable (m : (ℓ : Loc nD τ sig) → Buf (Elt F) ℓ)

/-- Everything a trip of the loop writes. -/
abbrev trip_W : List (Ref sig .tc) := condOps_W ++ while0Ops0_W ++ while0Ops0_1_W ++ while0Ops0_2_W ++ while0Ops0_3_W

/-- A buffer no trip writes holds after `k` trips what it held when the loop was entered. -/
theorem atK_keep (c : Dev nD) (r : Ref sig .tc) (h : r ∉ trip_W) : ∀ k,
    atK m k c (Proc.devRef .tc r) = entryContents preI m c (Proc.devRef .tc r)
  | 0 => rfl
  | k + 1 => by
    have hs : r ∉ condOps_W ∧ r ∉ while0Ops0_W ∧ r ∉ while0Ops0_1_W ∧ r ∉ while0Ops0_2_W ∧ r ∉ while0Ops0_3_W := by
      simpa only [List.mem_append, not_or, and_assoc] using h
    rw [show atK m (k + 1) c = afterL bodyI (after condOps (atK m k c)) from rfl]
    simp only [afterL_cons, afterL_nil]
    rw [after_of_writes_sub _ _ while0Ops0_3_writes hs.2.2.2.2, after_of_writes_sub _ _ while0Ops0_2_writes hs.2.2.2.1,
      after_of_writes_sub _ _ while0Ops0_1_writes hs.2.2.1, after_of_writes_sub _ _ while0Ops0_writes hs.2.1,
      after_of_writes_sub _ _ condOps_writes hs.1]
    exact atK_keep c r h k

/-- A buffer written neither before the loop nor in it holds, after `k` trips, its launch contents. -/
theorem atK_launch (c : Dev nD) (r : Ref sig .tc) (h : r ∉ trip_W) (h' : r ∉ hostOps0_W ++ hostOps0_1_W ++ hostOps0_2_W) (k : ℕ) :
    atK m k c (Proc.devRef .tc r) = m ((c.tc : Thread nD τ).loc r) := by
  have hs : r ∉ hostOps0_W ∧ r ∉ hostOps0_1_W ∧ r ∉ hostOps0_2_W := by
    simpa only [List.mem_append, not_or, and_assoc] using h'
  rw [atK_keep m c r h k]
  simp only [entryContents, afterL_cons, afterL_nil]
  rw [after_of_writes_sub _ _ hostOps0_2_writes hs.2.2, after_of_writes_sub _ _ hostOps0_1_writes hs.2.1,
      after_of_writes_sub _ _ hostOps0_writes hs.1]

set_option maxRecDepth 100000 in
/-- The arguments end holding their launch contents. -/
theorem final_args (c : Dev nD) :
    finalContents condOps preI bodyI postI 64 m c (Proc.devRef .tc main_arg0) = m ((c.tc : Thread nD τ).loc main_arg0)
    ∧ finalContents condOps preI bodyI postI 64 m c (Proc.devRef .tc main_arg1) = m ((c.tc : Thread nD τ).loc main_arg1)
    ∧ finalContents condOps preI bodyI postI 64 m c (Proc.devRef .tc main_arg2) = m ((c.tc : Thread nD τ).loc main_arg2)
    ∧ finalContents condOps preI bodyI postI 64 m c (Proc.devRef .tc main_arg3) = m ((c.tc : Thread nD τ).loc main_arg3) := by
  refine ⟨?_, ?_, ?_, ?_⟩
  · refine Eq.trans ?_ (atK_launch m c main_arg0 (by decide +kernel) (by decide +kernel) 64)
    simp only [finalContents, afterL_cons, afterL_nil]
    after_results
  · refine Eq.trans ?_ (atK_launch m c main_arg1 (by decide +kernel) (by decide +kernel) 64)
    simp only [finalContents, afterL_cons, afterL_nil]
    after_results
  · refine Eq.trans ?_ (atK_launch m c main_arg2 (by decide +kernel) (by decide +kernel) 64)
    simp only [finalContents, afterL_cons, afterL_nil]
    after_results
  · refine Eq.trans ?_ (atK_launch m c main_arg3 (by decide +kernel) (by decide +kernel) 64)
    simp only [finalContents, afterL_cons, afterL_nil]
    after_results

end Cert.RetRefIdeal.Value
end
-- ==== Proof.lean ====
module

public import proofs.«01_k».proof.Proof.RetValue
public import proofs.«01_k».proof.Proof.UpValue
public import proofs.«01_k».proof.Proof.CrossValue
public import proofs.«01_k».proof.Proof.SbqkValue
public import proofs.«01_k».proof.Proof.GateValue
public import proofs.«01_k».proof.Proof.ValValue
public import proofs.«01_k».proof.Proof.QkValue
public import proofs.«01_k».proof.Proof.OutValue
public import proofs.«01_k».proof.Proof.DownValue
public import proofs.«01_k».proof.Defs
public import proofs.«01_k».proof.Proof.Gen.Ret
public import proofs.«01_k».proof.Proof.Gen.Ret.Skeleton
public import proofs.«01_k».proof.Proof.Gen.Ret.Launch
public import proofs.«01_k».proof.Proof.Gen.Ret.Points
public import proofs.«01_k».proof.Proof.Gen.Ret.Frame
public import proofs.«01_k».proof.Proof.Gen.RetIdeal
public import proofs.«01_k».proof.Proof.Gen.RetIdeal.Skeleton
public import proofs.«01_k».proof.Proof.Gen.RetIdeal.Launch
public import proofs.«01_k».proof.Proof.Gen.RetIdeal.Points
public import proofs.«01_k».proof.Proof.Gen.RetIdeal.Frame
public import proofs.«01_k».proof.Proof.Gen.RetRefIdeal
public import proofs.«01_k».proof.Proof.Gen.Qk
public import proofs.«01_k».proof.Proof.Gen.Qk.Skeleton
public import proofs.«01_k».proof.Proof.Gen.Qk.Launch
public import proofs.«01_k».proof.Proof.Gen.Qk.Points
public import proofs.«01_k».proof.Proof.Gen.Qk.Frame
public import proofs.«01_k».proof.Proof.Gen.QkIdeal
public import proofs.«01_k».proof.Proof.Gen.QkIdeal.Skeleton
public import proofs.«01_k».proof.Proof.Gen.QkIdeal.Launch
public import proofs.«01_k».proof.Proof.Gen.QkIdeal.Points
public import proofs.«01_k».proof.Proof.Gen.QkIdeal.Frame
public import proofs.«01_k».proof.Proof.Gen.QkRefIdeal
public import proofs.«01_k».proof.Proof.Gen.Val
public import proofs.«01_k».proof.Proof.Gen.Val.Skeleton
public import proofs.«01_k».proof.Proof.Gen.Val.Launch
public import proofs.«01_k».proof.Proof.Gen.Val.Points
public import proofs.«01_k».proof.Proof.Gen.Val.Frame
public import proofs.«01_k».proof.Proof.Gen.ValIdeal
public import proofs.«01_k».proof.Proof.Gen.ValIdeal.Skeleton
public import proofs.«01_k».proof.Proof.Gen.ValIdeal.Launch
public import proofs.«01_k».proof.Proof.Gen.ValIdeal.Points
public import proofs.«01_k».proof.Proof.Gen.ValIdeal.Frame
public import proofs.«01_k».proof.Proof.Gen.ValRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Sbqk
public import proofs.«01_k».proof.Proof.Gen.Sbqk.Skeleton
public import proofs.«01_k».proof.Proof.Gen.Sbqk.Launch
public import proofs.«01_k».proof.Proof.Gen.Sbqk.Points
public import proofs.«01_k».proof.Proof.Gen.Sbqk.Frame
public import proofs.«01_k».proof.Proof.Gen.SbqkIdeal
public import proofs.«01_k».proof.Proof.Gen.SbqkIdeal.Skeleton
public import proofs.«01_k».proof.Proof.Gen.SbqkIdeal.Launch
public import proofs.«01_k».proof.Proof.Gen.SbqkIdeal.Points
public import proofs.«01_k».proof.Proof.Gen.SbqkIdeal.Frame
public import proofs.«01_k».proof.Proof.Gen.SbqkRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Cross
public import proofs.«01_k».proof.Proof.Gen.Cross.Skeleton
public import proofs.«01_k».proof.Proof.Gen.Cross.Launch
public import proofs.«01_k».proof.Proof.Gen.Cross.Points
public import proofs.«01_k».proof.Proof.Gen.Cross.Frame
public import proofs.«01_k».proof.Proof.Gen.CrossIdeal
public import proofs.«01_k».proof.Proof.Gen.CrossIdeal.Skeleton
public import proofs.«01_k».proof.Proof.Gen.CrossIdeal.Launch
public import proofs.«01_k».proof.Proof.Gen.CrossIdeal.Points
public import proofs.«01_k».proof.Proof.Gen.CrossIdeal.Frame
public import proofs.«01_k».proof.Proof.Gen.CrossRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Memkv
public import proofs.«01_k».proof.Proof.Gen.Memkv.Skeleton
public import proofs.«01_k».proof.Proof.Gen.Memkv.Launch
public import proofs.«01_k».proof.Proof.Gen.Memkv.Points
public import proofs.«01_k».proof.Proof.Gen.Memkv.Frame
public import proofs.«01_k».proof.Proof.Gen.MemkvIdeal
public import proofs.«01_k».proof.Proof.Gen.MemkvIdeal.Skeleton
public import proofs.«01_k».proof.Proof.Gen.MemkvIdeal.Launch
public import proofs.«01_k».proof.Proof.Gen.MemkvIdeal.Points
public import proofs.«01_k».proof.Proof.Gen.MemkvIdeal.Frame
public import proofs.«01_k».proof.Proof.Gen.MemkvRefIdeal
public import proofs.«01_k».proof.Proof.MemkvValue
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.NormValue
public import Idealize.ShloMosaic.Adequacy
public import Idealize.ShloMosaic.Init
public import proofs.«01_k».proof.Proof.RetLoop
public import Idealize.ShloMosaic.Lib.Claim

@[expose] public section

set_option maxRecDepth 100000

noncomputable section

namespace Cert.Proof

open Idealize.ShloMosaic Idealize.SL.Sem

/-! ### Ret -/

theorem frame_Ret : Cert.quiescent_Ret := fun m g _ => Cert.Ret.Gen.frame m g

theorem frame_RetIdeal : Cert.quiescent_RetIdeal := fun m g _ => Cert.RetIdeal.Gen.frame m g

theorem frame_RetRefIdeal : Cert.quiescent_RetRefIdeal := fun m g _ =>
  (θ_run Cert.RetRefIdeal.defs _ _).mono
    (fun r h => ⟨fun c =>
      ⟨(h c Cert.RetRefIdeal.main_arg0 rfl).trans (Cert.RetRefIdeal.Value.final_args m c).1,
       (h c Cert.RetRefIdeal.main_arg1 rfl).trans (Cert.RetRefIdeal.Value.final_args m c).2.1,
       (h c Cert.RetRefIdeal.main_arg2 rfl).trans (Cert.RetRefIdeal.Value.final_args m c).2.2.1,
       (h c Cert.RetRefIdeal.main_arg3 rfl).trans (Cert.RetRefIdeal.Value.final_args m c).2.2.2⟩,
      sem_eq_zero_of_no_sems (by decide) r.2⟩)
    (Cert.RetRefIdeal.Value.run_fold m g)

/-! ### Qk -/

theorem frame_Qk : Cert.quiescent_Qk := fun m g _ => Cert.Qk.Gen.frame m g

theorem frame_QkIdeal : Cert.quiescent_QkIdeal := fun m g _ => Cert.QkIdeal.Gen.frame m g

theorem frame_QkRefIdeal : Cert.quiescent_QkRefIdeal := fun m g _ =>
  (θ_run Cert.QkRefIdeal.defs _ _).mono (fun r h => ⟨fun c => (h c).2, sem_eq_zero_of_no_sems (by decide) r.2⟩)
    (Cert.QkRefIdeal.Value.run m g)

theorem algebraic_Qk : Cert.algebraic_QkIdeal_QkRefIdeal := by
  pair_intro
  · run_from Cert.QkIdeal.Gen.run_main m g
    exact Cert.QkIdeal.Gen.V_main_arg1 m c
  · run_from Cert.QkRefIdeal.Value.run m' g'
    unfold Cert.QkRefIdeal.Value.res_main_v58
    rw [(hagree c).1, (hagree c).2]
    exact (Cert.QkIdeal.Value.result m c).symm

/-! ### Val -/

theorem frame_Val : Cert.quiescent_Val := fun m g _ => Cert.Val.Gen.frame m g

theorem frame_ValIdeal : Cert.quiescent_ValIdeal := fun m g _ => Cert.ValIdeal.Gen.frame m g

theorem frame_ValRefIdeal : Cert.quiescent_ValRefIdeal := fun m g _ =>
  (θ_run Cert.ValRefIdeal.defs _ _).mono (fun r h => ⟨fun c => (h c).2.2, sem_eq_zero_of_no_sems (by decide) r.2⟩)
    (Cert.ValRefIdeal.Value.run m g)

theorem algebraic_Val : Cert.algebraic_ValIdeal_ValRefIdeal := by
  pair_intro
  · run_from Cert.ValIdeal.Gen.run_main m g
  · run_from Cert.ValRefIdeal.Value.run m' g'
    · exact (Cert.ValIdeal.Value.result m c).symm
    · exact (Cert.ValIdeal.Value.weight_result m c).symm

/-! ### Gate -/

theorem frame_Gate : Cert.quiescent_Gate := fun m g _ => Cert.Gate.Gen.frame m g

theorem frame_GateIdeal : Cert.quiescent_GateIdeal := fun m g _ => Cert.GateIdeal.Gen.frame m g

theorem frame_GateRefIdeal : Cert.quiescent_GateRefIdeal := fun m g _ =>
  (θ_run Cert.GateRefIdeal.defs _ _).mono (fun r h => ⟨fun c => (h c).2.2, sem_eq_zero_of_no_sems (by decide) r.2⟩)
    (Cert.GateRefIdeal.Value.run m g)

theorem algebraic_Gate : Cert.algebraic_GateIdeal_GateRefIdeal := by
  pair_intro
  · run_from Cert.GateIdeal.Gen.run_main m g
  · run_from Cert.GateRefIdeal.Value.run m' g'
    · exact (Cert.GateIdeal.Value.result m c).symm
    · exact (Cert.GateIdeal.Value.weight_result m c).symm

/-! ### Sbqk -/

theorem frame_Sbqk : Cert.quiescent_Sbqk := fun m g _ => Cert.Sbqk.Gen.frame m g

theorem frame_SbqkIdeal : Cert.quiescent_SbqkIdeal := fun m g _ => Cert.SbqkIdeal.Gen.frame m g

theorem frame_SbqkRefIdeal : Cert.quiescent_SbqkRefIdeal := fun m g _ =>
  (θ_run Cert.SbqkRefIdeal.defs _ _).mono (fun r h => ⟨fun c => (h c).2, sem_eq_zero_of_no_sems (by decide) r.2⟩)
    (Cert.SbqkRefIdeal.Value.run m g)

theorem algebraic_Sbqk : Cert.algebraic_SbqkIdeal_SbqkRefIdeal := by
  pair_intro
  · run_from Cert.SbqkIdeal.Gen.run_main m g
  · run_from Cert.SbqkRefIdeal.Value.run m' g'
    rw [(hagree c).2.2.2]
    exact (Cert.SbqkIdeal.Value.result m c).symm

/-! ### Out -/

theorem frame_Out : Cert.quiescent_Out := fun m g _ => Cert.Out.Gen.frame m g

theorem frame_OutIdeal : Cert.quiescent_OutIdeal := fun m g _ => Cert.OutIdeal.Gen.frame m g

theorem frame_OutRefIdeal : Cert.quiescent_OutRefIdeal := fun m g _ =>
  (θ_run Cert.OutRefIdeal.defs _ _).mono (fun r h => ⟨fun c => (h c).2, sem_eq_zero_of_no_sems (by decide) r.2⟩)
    (Cert.OutRefIdeal.Value.run m g)

theorem algebraic_Out : Cert.algebraic_OutIdeal_OutRefIdeal := by
  pair_intro
  · run_from Cert.OutIdeal.Gen.run_main m g
  · run_from Cert.OutRefIdeal.Value.run m' g'
    exact (Cert.OutIdeal.Value.result m c).symm

/-! ### Cross -/

theorem frame_Cross : Cert.quiescent_Cross := fun m g _ => Cert.Cross.Gen.frame m g

theorem frame_CrossIdeal : Cert.quiescent_CrossIdeal := fun m g _ => Cert.CrossIdeal.Gen.frame m g

theorem frame_CrossRefIdeal : Cert.quiescent_CrossRefIdeal := fun m g _ =>
  (θ_run Cert.CrossRefIdeal.defs _ _).mono (fun r h => ⟨fun c => (h c).2.2, sem_eq_zero_of_no_sems (by decide) r.2⟩)
    (Cert.CrossRefIdeal.Value.run m g)

theorem algebraic_Cross : Cert.algebraic_CrossIdeal_CrossRefIdeal := by
  pair_intro
  · run_from Cert.CrossIdeal.Gen.run_main m g
  · run_from Cert.CrossRefIdeal.Value.run m' g'
    · unfold Cert.CrossRefIdeal.Value.res_main_v65
      rw [(hagree c).1, (hagree c).2.1, (hagree c).2.2.1, (hagree c).2.2.2.1, (hagree c).2.2.2.2.1, (hagree c).2.2.2.2.2.1, (hagree c).2.2.2.2.2.2.1]
      exact (Cert.CrossIdeal.Value.result m c).symm
    · unfold Cert.CrossRefIdeal.Value.res_main_v67
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.CrossIdeal.Value.normed_result m c).symm

/-! ### Up -/

theorem frame_Up : Cert.quiescent_Up := fun m g _ => Cert.Up.Gen.frame m g

theorem frame_UpIdeal : Cert.quiescent_UpIdeal := fun m g _ => Cert.UpIdeal.Gen.frame m g

theorem frame_UpRefIdeal : Cert.quiescent_UpRefIdeal := fun m g _ =>
  (θ_run Cert.UpRefIdeal.defs _ _).mono (fun r h => ⟨fun c => (h c).2.2, sem_eq_zero_of_no_sems (by decide) r.2⟩)
    (Cert.UpRefIdeal.Value.run m g)

theorem algebraic_Up : Cert.algebraic_UpIdeal_UpRefIdeal := by
  pair_intro
  · run_from Cert.UpIdeal.Gen.run_main m g
  · run_from Cert.UpRefIdeal.Value.run m' g'
    · unfold Cert.UpRefIdeal.Value.res_main_v33
      rw [(hagree c).1, (hagree c).2.1, (hagree c).2.2.1, (hagree c).2.2.2.1]
      exact (Cert.UpIdeal.Value.result m c).symm
    · exact (Cert.UpIdeal.Value.weight_result m c).symm

/-! ### Down -/

theorem frame_Down : Cert.quiescent_Down := fun m g _ => Cert.Down.Gen.frame m g

theorem frame_DownIdeal : Cert.quiescent_DownIdeal := fun m g _ => Cert.DownIdeal.Gen.frame m g

theorem frame_DownRefIdeal : Cert.quiescent_DownRefIdeal := fun m g _ =>
  (θ_run Cert.DownRefIdeal.defs _ _).mono (fun r h => ⟨fun c => (h c).2, sem_eq_zero_of_no_sems (by decide) r.2⟩)
    (Cert.DownRefIdeal.Value.run m g)

theorem algebraic_Down : Cert.algebraic_DownIdeal_DownRefIdeal := by
  pair_intro
  · run_from Cert.DownIdeal.Gen.run_main m g
  · run_from Cert.DownRefIdeal.Value.run m' g'
    exact (Cert.DownIdeal.Value.result m c).symm

/-! ### Memkv -/

theorem frame_Memkv : Cert.quiescent_Memkv := fun m g _ => Cert.Memkv.Gen.frame m g

theorem frame_MemkvIdeal : Cert.quiescent_MemkvIdeal := fun m g _ => Cert.MemkvIdeal.Gen.frame m g

theorem frame_MemkvRefIdeal : Cert.quiescent_MemkvRefIdeal := fun m g _ =>
  (θ_run Cert.MemkvRefIdeal.defs _ _).mono (fun r h => ⟨fun c => (h c).2.2, sem_eq_zero_of_no_sems (by decide) r.2⟩)
    (Cert.MemkvRefIdeal.Value.run m g)

theorem algebraic_Memkv : Cert.algebraic_MemkvIdeal_MemkvRefIdeal := by
  pair_intro
  · run_from Cert.MemkvIdeal.Gen.run_main m g
  · run_from Cert.MemkvRefIdeal.Value.run m' g'
    · exact (Cert.MemkvIdeal.Value.result m c).symm
    · exact (Cert.MemkvIdeal.Value.value_result m c).symm

/-! ### Norm -/

theorem frame_Norm : Cert.quiescent_Norm := fun m g _ => Cert.Norm.Gen.frame m g

theorem frame_NormIdeal : Cert.quiescent_NormIdeal := fun m g _ => Cert.NormIdeal.Gen.frame m g

theorem frame_NormRefIdeal : Cert.quiescent_NormRefIdeal := fun m g _ =>
  (θ_run Cert.NormRefIdeal.defs _ _).mono (fun r h => ⟨fun c => (h c).2, sem_eq_zero_of_no_sems (by decide) r.2⟩)
    (Cert.NormRefIdeal.Value.run m g)

theorem algebraic_Norm : Cert.algebraic_NormIdeal_NormRefIdeal := by
  pair_intro
  · run_from Cert.NormIdeal.Gen.run_main m g
  · run_from Cert.NormRefIdeal.Value.run m' g'
    exact (Cert.NormIdeal.Value.result m c).symm

theorem claim : Cert.Claim := ⟨Cert.Ret.Gen.facts, Cert.RetIdeal.Gen.facts, Cert.RetRefIdeal.Gen.facts, Cert.Qk.Gen.facts, Cert.QkIdeal.Gen.facts, Cert.QkRefIdeal.Gen.facts, Cert.Val.Gen.facts, Cert.ValIdeal.Gen.facts, Cert.ValRefIdeal.Gen.facts, Cert.Gate.Gen.facts, Cert.GateIdeal.Gen.facts, Cert.GateRefIdeal.Gen.facts, Cert.Sbqk.Gen.facts, Cert.SbqkIdeal.Gen.facts, Cert.SbqkRefIdeal.Gen.facts, Cert.Out.Gen.facts, Cert.OutIdeal.Gen.facts, Cert.OutRefIdeal.Gen.facts, Cert.Cross.Gen.facts, Cert.CrossIdeal.Gen.facts, Cert.CrossRefIdeal.Gen.facts, Cert.Up.Gen.facts, Cert.UpIdeal.Gen.facts, Cert.UpRefIdeal.Gen.facts, Cert.Down.Gen.facts, Cert.DownIdeal.Gen.facts, Cert.DownRefIdeal.Gen.facts, Cert.Memkv.Gen.facts, Cert.MemkvIdeal.Gen.facts, Cert.MemkvRefIdeal.Gen.facts, Cert.Norm.Gen.facts, Cert.NormIdeal.Gen.facts, Cert.NormRefIdeal.Gen.facts,
  frame_Ret, frame_RetIdeal, frame_RetRefIdeal, frame_Qk, frame_QkIdeal, frame_QkRefIdeal, frame_Val, frame_ValIdeal, frame_ValRefIdeal, frame_Gate, frame_GateIdeal, frame_GateRefIdeal, frame_Sbqk, frame_SbqkIdeal, frame_SbqkRefIdeal, frame_Out, frame_OutIdeal, frame_OutRefIdeal, frame_Cross, frame_CrossIdeal, frame_CrossRefIdeal, frame_Up, frame_UpIdeal, frame_UpRefIdeal, frame_Down, frame_DownIdeal, frame_DownRefIdeal, frame_Memkv, frame_MemkvIdeal, frame_MemkvRefIdeal, frame_Norm, frame_NormIdeal, frame_NormRefIdeal, trivial, trivial, algebraic_Qk, trivial, algebraic_Val, trivial, algebraic_Gate, trivial, algebraic_Sbqk, trivial, algebraic_Out, trivial, algebraic_Cross, trivial, algebraic_Up, trivial, algebraic_Down, trivial, algebraic_Memkv, trivial, algebraic_Norm⟩

end Cert.Proof

end
